-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_lengths [hPre_full_lengths : Cert.Pre_full_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_full_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_lengths [hPre_full_lengths : Cert.Pre_full_lengths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_lengths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_full_lengths [hKernelIdeal : Cert.KernelIdeal.Facts] [hPre_full_lengths : Cert.Pre_full_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_lengths m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_full_lengths [hReferenceIdeal : Cert.ReferenceIdeal.Facts] [hPre_full_lengths : Cert.Pre_full_lengths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_lengths m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_full_lengths [hKernelIdeal : Cert.KernelIdeal.Facts] [hReferenceIdeal : Cert.ReferenceIdeal.Facts] [hPre_full_lengths : Cert.Pre_full_lengths.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_lengths m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_full_lengths : Cert.Pre_full_lengths.Facts),
    quiescent_Kernel (hKernel := hKernel)
    ∧ quiescent_KernelIdeal (hKernelIdeal := hKernelIdeal)
    ∧ quiescent_KernelIdeal_pre_full_lengths (hKernelIdeal := hKernelIdeal) (hPre_full_lengths := hPre_full_lengths)
    ∧ quiescent_ReferenceIdeal (hReferenceIdeal := hReferenceIdeal)
    ∧ quiescent_ReferenceIdeal_pre_full_lengths (hReferenceIdeal := hReferenceIdeal) (hPre_full_lengths := hPre_full_lengths)
    ∧ preserves_Kernel_KernelIdeal
    ∧ algebraic_KernelIdeal_ReferenceIdeal_pre_full_lengths (hKernelIdeal := hKernelIdeal) (hReferenceIdeal := hReferenceIdeal) (hPre_full_lengths := hPre_full_lengths)
-- ==== Pre_full_lengths.lean ====
abbrev S10000x128 : Shape := ⟨2, ![10000, 128]⟩
abbrev S460x128 : Shape := ⟨2, ![460, 128]⟩
abbrev S20480x128 : Shape := ⟨2, ![20480, 128]⟩
abbrev S16x128x128 : Shape := ⟨3, ![16, 128, 128]⟩
abbrev S460x16 : Shape := ⟨2, ![460, 16]⟩
abbrev S128x128 : Shape := ⟨2, ![128, 128]⟩
abbrev S2x40000 : Shape := ⟨2, ![2, 40000]⟩
abbrev S40000 : Shape := ⟨1, ![40000]⟩
abbrev S20480 : Shape := ⟨1, ![20480]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S10000x128 .f32) (main_arg1 : FVec F S460x128 .f32) (main_arg2 : FVec F S20480x128 .f32) (main_arg3 : FVec F S16x128x128 .f32) (main_arg4 : FVec F S460x16 .f32) (main_arg5 : FVec F S128x128 .f32) (main_arg6 : FVec F S16x128x128 .f32) (main_arg7 : FVec F S460x16 .f32) (main_arg8 : FVec F S128x128 .f32) (main_arg9 : IVec S2x40000 32) (main_arg10 : IVec S40000 32) (main_arg11 : IVec S20480 32) (main_arg12 : IVec S2048 32) (main_arg13 : IVec S2048 32) (main_arg14 : IVec S2048 32) (main_arg15 : IVec S_ 32) : IVec S_ 1 :=
  let main_c : IVec S_ 32 := constantI S_ 32 10#32
  let main_v0 : IVec S2048 32 := broadcastInDim S2048 ![] bcast_S_S2048 main_c
  let main_v1 : IVec S2048 1 := cmpi .eq main_arg12 main_v0
  let main_c_0 : IVec S_ 1 := constantI S_ 1 1#1
  let main_v2 : IVec S_ 1 := (fun x v => Host.reduce IntOp.andi x v reducesTo_S2048_S_d0 h_S_) main_v1 main_c_0
  main_v2
-- ==== Kernel.lean ====
abbrev S10000x128 : Shape := ⟨2, ![10000, 128]⟩
abbrev S460x128 : Shape := ⟨2, ![460, 128]⟩
abbrev S20480x128 : Shape := ⟨2, ![20480, 128]⟩
abbrev S16x128x128 : Shape := ⟨3, ![16, 128, 128]⟩
abbrev S460x16 : Shape := ⟨2, ![460, 16]⟩
abbrev S128x128 : Shape := ⟨2, ![128, 128]⟩
abbrev S2x40000 : Shape := ⟨2, ![2, 40000]⟩
abbrev S40000 : Shape := ⟨1, ![40000]⟩
abbrev S20480 : Shape := ⟨1, ![20480]⟩
abbrev S2048 : Shape := ⟨1, ![2048]⟩
abbrev S_ : Shape := ⟨0, ![]⟩
abbrev S1x40000 : Shape := ⟨2, ![1, 40000]⟩
abbrev S128x16x128 : Shape := ⟨3, ![128, 16, 128]⟩
abbrev S128x2048 : Shape := ⟨2, ![128, 2048]⟩
abbrev S10000x2048 : Shape := ⟨2, ![10000, 2048]⟩
abbrev S1000x128 : Shape := ⟨2, ![1000, 128]⟩
abbrev S1000x2048 : Shape := ⟨2, ![1000, 2048]⟩
abbrev S10000x16x128 : Shape := ⟨3, ![10000, 16, 128]⟩
abbrev S40000x1 : Shape := ⟨2, ![40000, 1]⟩
abbrev S1 : Shape := ⟨1, ![1]⟩
abbrev S1x1 : Shape := ⟨2, ![1, 1]⟩
abbrev S40000x16 : Shape := ⟨2, ![40000, 16]⟩
abbrev S40000x16x128 : Shape := ⟨3, ![40000, 16, 128]⟩
abbrev S40000x128 : Shape := ⟨2, ![40000, 128]⟩
abbrev S10000 : Shape := ⟨1, ![10000]⟩
abbrev S10000x1 : Shape := ⟨2, ![10000, 1]⟩
abbrev S20480x1 : Shape := ⟨2, ![20480, 1]⟩
abbrev S2048x1 : Shape := ⟨2, ![2048, 1]⟩
abbrev S2048x128 : Shape := ⟨2, ![2048, 128]⟩
abbrev S20480x512 : Shape := ⟨2, ![20480, 512]⟩
abbrev S20480x384 : Shape := ⟨2, ![20480, 384]⟩
abbrev S2048x10x512 : Shape := ⟨3, ![2048, 10, 512]⟩
abbrev S2048x10x384 : Shape := ⟨3, ![2048, 10, 384]⟩

abbrev nBuf : Space → Nat
  | .hbm => 305
  | .vmem => 20
  | .smem => 0
  | _ => 0

abbrev hbmTy0_0 (i : Nat) : BufTy := match i % 128 with
  | 0 => ⟨S10000x128, .f32⟩
  | 1 => ⟨S460x128, .f32⟩
  | 2 => ⟨S20480x128, .f32⟩
  | 3 => ⟨S16x128x128, .f32⟩
  | 4 => ⟨S460x16, .f32⟩
  | 5 => ⟨S128x128, .f32⟩
  | 6 => ⟨S16x128x128, .f32⟩
  | 7 => ⟨S460x16, .f32⟩
  | 8 => ⟨S128x128, .f32⟩
  | 9 => ⟨S2x40000, .i32⟩
  | 10 => ⟨S40000, .i32⟩
  | 11 => ⟨S20480, .i32⟩
  | 12 => ⟨S2048, .i32⟩
  | 13 => ⟨S2048, .i32⟩
  | 14 => ⟨S2048, .i32⟩
  | 15 => ⟨S_, .i32⟩
  | 16 => ⟨S1x40000, .i32⟩
  | 17 => ⟨S40000, .i32⟩
  | 18 => ⟨S1x40000, .i32⟩
  | 19 => ⟨S40000, .i32⟩
  | 20 => ⟨S_, .i32⟩
  | 21 => ⟨S_, .i32⟩
  | 22 => ⟨S40000, .i32⟩
  | 23 => ⟨S40000, .i32⟩
  | 24 => ⟨S128x16x128, .f32⟩
  | 25 => ⟨S128x2048, .f32⟩
  | 26 => ⟨S10000x2048, .f32⟩
  | 27 => ⟨S10000x16x128, .f32⟩
  | 28 => ⟨S_, .i32⟩
  | 29 => ⟨S40000, .i32⟩
  | 30 => ⟨S40000, .i1⟩
  | 31 => ⟨S_, .i32⟩
  | 32 => ⟨S40000, .i32⟩
  | 33 => ⟨S40000, .i32⟩
  | 34 => ⟨S40000, .i32⟩
  | 35 => ⟨S40000x1, .i32⟩
  | 36 => ⟨S1, .i32⟩
  | 37 => ⟨S_, .i32⟩
  | 38 => ⟨S40000x1, .i32⟩
  | 39 => ⟨S40000x1, .i1⟩
  | 40 => ⟨S1x1, .i32⟩
  | 41 => ⟨S40000x1, .i32⟩
  | 42 => ⟨S40000x1, .i1⟩
  | 43 => ⟨S40000x1, .i1⟩
  | 44 => ⟨S_, .i1⟩
  | 45 => ⟨S40000, .i1⟩
  | 46 => ⟨S40000x16, .f32⟩
  | 47 => ⟨S40000x16, .i1⟩
  | 48 => ⟨S_, .f32⟩
  | 49 => ⟨S40000x16, .f32⟩
  | 50 => ⟨S40000x16, .f32⟩
  | 51 => ⟨S_, .i32⟩
  | 52 => ⟨S40000, .i32⟩
  | 53 => ⟨S40000, .i1⟩
  | 54 => ⟨S_, .i32⟩
  | 55 => ⟨S40000, .i32⟩
  | 56 => ⟨S40000, .i32⟩
  | 57 => ⟨S40000, .i32⟩
  | 58 => ⟨S40000x1, .i32⟩
  | 59 => ⟨S1, .i32⟩
  | 60 => ⟨S_, .i32⟩
  | 61 => ⟨S40000x1, .i32⟩
  | 62 => ⟨S40000x1, .i1⟩
  | 63 => ⟨S1x1, .i32⟩
  | 64 => ⟨S40000x1, .i32⟩
  | 65 => ⟨S40000x1, .i1⟩
  | 66 => ⟨S40000x1, .i1⟩
  | 67 => ⟨S_, .i1⟩
  | 68 => ⟨S40000, .i1⟩
  | 69 => ⟨S40000x16x128, .f32⟩
  | 70 => ⟨S40000x16x128, .i1⟩
  | 71 => ⟨S_, .f32⟩
  | 72 => ⟨S40000x16x128, .f32⟩
  | 73 => ⟨S40000x16x128, .f32⟩
  | 74 => ⟨S40000x128, .f32⟩
  | 75 => ⟨S_, .f32⟩
  | 76 => ⟨S10000x128, .f32⟩
  | 77 => ⟨S40000x1, .i32⟩
  | 78 => ⟨S10000x128, .f32⟩
  | 79 => ⟨S_, .f32⟩
  | 80 => ⟨S40000, .f32⟩
  | 81 => ⟨S_, .f32⟩
  | 82 => ⟨S10000, .f32⟩
  | 83 => ⟨S40000x1, .i32⟩
  | 84 => ⟨S10000, .f32⟩
  | 85 => ⟨S_, .f32⟩
  | 86 => ⟨S_, .f32⟩
  | 87 => ⟨S10000, .f32⟩
  | 88 => ⟨S10000, .f32⟩
  | 89 => ⟨S10000x1, .f32⟩
  | 90 => ⟨S10000x128, .f32⟩
  | 91 => ⟨S10000x128, .f32⟩
  | 92 => ⟨S10000x128, .f32⟩
  | 93 => ⟨S10000x128, .f32⟩
  | 94 => ⟨S_, .f32⟩
  | 95 => ⟨S10000x128, .f32⟩
  | 96 => ⟨S10000x128, .f32⟩
  | 97 => ⟨S128x16x128, .f32⟩
  | 98 => ⟨S128x2048, .f32⟩
  | 99 => ⟨S10000x2048, .f32⟩
  | 100 => ⟨S10000x16x128, .f32⟩
  | 101 => ⟨S_, .i32⟩
  | 102 => ⟨S40000, .i32⟩
  | 103 => ⟨S40000, .i1⟩
  | 104 => ⟨S_, .i32⟩
  | 105 => ⟨S40000, .i32⟩
  | 106 => ⟨S40000, .i32⟩
  | 107 => ⟨S40000, .i32⟩
  | 108 => ⟨S40000x1, .i32⟩
  | 109 => ⟨S1, .i32⟩
  | 110 => ⟨S_, .i32⟩
  | 111 => ⟨S40000x1, .i32⟩
  | 112 => ⟨S40000x1, .i1⟩
  | 113 => ⟨S1x1, .i32⟩
  | 114 => ⟨S40000x1, .i32⟩
  | 115 => ⟨S40000x1, .i1⟩
  | 116 => ⟨S40000x1, .i1⟩
  | 117 => ⟨S_, .i1⟩
  | 118 => ⟨S40000, .i1⟩
  | 119 => ⟨S40000x16, .f32⟩
  | 120 => ⟨S40000x16, .i1⟩
  | 121 => ⟨S_, .f32⟩
  | 122 => ⟨S40000x16, .f32⟩
  | 123 => ⟨S40000x16, .f32⟩
  | 124 => ⟨S_, .i32⟩
  | 125 => ⟨S40000, .i32⟩
  | 126 => ⟨S40000, .i1⟩
  | 127 => ⟨S_, .i32⟩
  | _ => ⟨S10000x128, .f32⟩

abbrev hbmTy0_1 (i : Nat) : BufTy := match i % 128 with
  | 0 => ⟨S40000, .i32⟩
  | 1 => ⟨S40000, .i32⟩
  | 2 => ⟨S40000, .i32⟩
  | 3 => ⟨S40000x1, .i32⟩
  | 4 => ⟨S1, .i32⟩
  | 5 => ⟨S_, .i32⟩
  | 6 => ⟨S40000x1, .i32⟩
  | 7 => ⟨S40000x1, .i1⟩
  | 8 => ⟨S1x1, .i32⟩
  | 9 => ⟨S40000x1, .i32⟩
  | 10 => ⟨S40000x1, .i1⟩
  | 11 => ⟨S40000x1, .i1⟩
  | 12 => ⟨S_, .i1⟩
  | 13 => ⟨S40000, .i1⟩
  | 14 => ⟨S40000x16x128, .f32⟩
  | 15 => ⟨S40000x16x128, .i1⟩
  | 16 => ⟨S_, .f32⟩
  | 17 => ⟨S40000x16x128, .f32⟩
  | 18 => ⟨S40000x16x128, .f32⟩
  | 19 => ⟨S40000x128, .f32⟩
  | 20 => ⟨S_, .f32⟩
  | 21 => ⟨S10000x128, .f32⟩
  | 22 => ⟨S40000x1, .i32⟩
  | 23 => ⟨S10000x128, .f32⟩
  | 24 => ⟨S_, .f32⟩
  | 25 => ⟨S40000, .f32⟩
  | 26 => ⟨S_, .f32⟩
  | 27 => ⟨S10000, .f32⟩
  | 28 => ⟨S40000x1, .i32⟩
  | 29 => ⟨S10000, .f32⟩
  | 30 => ⟨S_, .f32⟩
  | 31 => ⟨S_, .f32⟩
  | 32 => ⟨S10000, .f32⟩
  | 33 => ⟨S10000, .f32⟩
  | 34 => ⟨S10000x1, .f32⟩
  | 35 => ⟨S10000x128, .f32⟩
  | 36 => ⟨S10000x128, .f32⟩
  | 37 => ⟨S10000x128, .f32⟩
  | 38 => ⟨S10000x128, .f32⟩
  | 39 => ⟨S_, .i32⟩
  | 40 => ⟨S20480, .i32⟩
  | 41 => ⟨S20480, .i1⟩
  | 42 => ⟨S_, .i32⟩
  | 43 => ⟨S20480, .i32⟩
  | 44 => ⟨S20480, .i32⟩
  | 45 => ⟨S20480, .i32⟩
  | 46 => ⟨S20480x1, .i32⟩
  | 47 => ⟨S1, .i32⟩
  | 48 => ⟨S_, .i32⟩
  | 49 => ⟨S20480x1, .i32⟩
  | 50 => ⟨S20480x1, .i1⟩
  | 51 => ⟨S1x1, .i32⟩
  | 52 => ⟨S20480x1, .i32⟩
  | 53 => ⟨S20480x1, .i1⟩
  | 54 => ⟨S20480x1, .i1⟩
  | 55 => ⟨S_, .i1⟩
  | 56 => ⟨S20480, .i1⟩
  | 57 => ⟨S20480x128, .f32⟩
  | 58 => ⟨S20480x128, .i1⟩
  | 59 => ⟨S_, .f32⟩
  | 60 => ⟨S20480x128, .f32⟩
  | 61 => ⟨S20480x128, .f32⟩
  | 62 => ⟨S20480, .i32⟩
  | 63 => ⟨S_, .i32⟩
  | 64 => ⟨S_, .i32⟩
  | 65 => ⟨S20480, .i32⟩
  | 66 => ⟨S20480, .i32⟩
  | 67 => ⟨S20480, .i32⟩
  | 68 => ⟨S_, .i32⟩
  | 69 => ⟨S20480, .i32⟩
  | 70 => ⟨S20480, .i1⟩
  | 71 => ⟨S20480, .i32⟩
  | 72 => ⟨S20480, .i32⟩
  | 73 => ⟨S_, .i32⟩
  | 74 => ⟨S20480, .i32⟩
  | 75 => ⟨S20480, .i1⟩
  | 76 => ⟨S20480, .i1⟩
  | 77 => ⟨S_, .i32⟩
  | 78 => ⟨S20480, .i32⟩
  | 79 => ⟨S20480, .i32⟩
  | 80 => ⟨S20480, .i32⟩
  | 81 => ⟨S_, .i32⟩
  | 82 => ⟨S2048, .i32⟩
  | 83 => ⟨S2048, .i1⟩
  | 84 => ⟨S_, .i32⟩
  | 85 => ⟨S2048, .i32⟩
  | 86 => ⟨S2048, .i32⟩
  | 87 => ⟨S2048, .i32⟩
  | 88 => ⟨S2048x1, .i32⟩
  | 89 => ⟨S1, .i32⟩
  | 90 => ⟨S_, .i32⟩
  | 91 => ⟨S2048x1, .i32⟩
  | 92 => ⟨S2048x1, .i1⟩
  | 93 => ⟨S1x1, .i32⟩
  | 94 => ⟨S2048x1, .i32⟩
  | 95 => ⟨S2048x1, .i1⟩
  | 96 => ⟨S2048x1, .i1⟩
  | 97 => ⟨S_, .i1⟩
  | 98 => ⟨S2048, .i1⟩
  | 99 => ⟨S2048x128, .f32⟩
  | 100 => ⟨S2048x128, .i1⟩
  | 101 => ⟨S_, .f32⟩
  | 102 => ⟨S2048x128, .f32⟩
  | 103 => ⟨S2048x128, .f32⟩
  | 104 => ⟨S_, .i32⟩
  | 105 => ⟨S20480, .i32⟩
  | 106 => ⟨S20480, .i1⟩
  | 107 => ⟨S_, .i32⟩
  | 108 => ⟨S20480, .i32⟩
  | 109 => ⟨S20480, .i32⟩
  | 110 => ⟨S20480, .i32⟩
  | 111 => ⟨S20480x1, .i32⟩
  | 112 => ⟨S1, .i32⟩
  | 113 => ⟨S_, .i32⟩
  | 114 => ⟨S20480x1, .i32⟩
  | 115 => ⟨S20480x1, .i1⟩
  | 116 => ⟨S1x1, .i32⟩
  | 117 => ⟨S20480x1, .i32⟩
  | 118 => ⟨S20480x1, .i1⟩
  | 119 => ⟨S20480x1, .i1⟩
  | 120 => ⟨S_, .i1⟩
  | 121 => ⟨S20480, .i1⟩
  | 122 => ⟨S20480x128, .f32⟩
  | 123 => ⟨S20480x128, .i1⟩
  | 124 => ⟨S_, .f32⟩
  | 125 => ⟨S20480x128, .f32⟩
  | 126 => ⟨S20480x128, .f32⟩
  | 127 => ⟨S_, .i32⟩
  | _ => ⟨S10000x128, .f32⟩

abbrev hbmTy0_2 (i : Nat) : BufTy := match i % 128 with
  | 0 => ⟨S2048, .i32⟩
  | 1 => ⟨S2048, .i1⟩
  | 2 => ⟨S_, .i32⟩
  | 3 => ⟨S2048, .i32⟩
  | 4 => ⟨S2048, .i32⟩
  | 5 => ⟨S2048, .i32⟩
  | 6 => ⟨S2048x1, .i32⟩
  | 7 => ⟨S1, .i32⟩
  | 8 => ⟨S_, .i32⟩
  | 9 => ⟨S2048x1, .i32⟩
  | 10 => ⟨S2048x1, .i1⟩
  | 11 => ⟨S1x1, .i32⟩
  | 12 => ⟨S2048x1, .i32⟩
  | 13 => ⟨S2048x1, .i1⟩
  | 14 => ⟨S2048x1, .i1⟩
  | 15 => ⟨S_, .i1⟩
  | 16 => ⟨S2048, .i1⟩
  | 17 => ⟨S2048x128, .f32⟩
  | 18 => ⟨S2048x128, .i1⟩
  | 19 => ⟨S_, .f32⟩
  | 20 => ⟨S2048x128, .f32⟩
  | 21 => ⟨S2048x128, .f32⟩
  | 22 => ⟨S_, .i32⟩
  | 23 => ⟨S20480, .i32⟩
  | 24 => ⟨S20480, .i1⟩
  | 25 => ⟨S_, .i32⟩
  | 26 => ⟨S20480, .i32⟩
  | 27 => ⟨S20480, .i32⟩
  | 28 => ⟨S20480, .i32⟩
  | 29 => ⟨S20480x1, .i32⟩
  | 30 => ⟨S1, .i32⟩
  | 31 => ⟨S_, .i32⟩
  | 32 => ⟨S20480x1, .i32⟩
  | 33 => ⟨S20480x1, .i1⟩
  | 34 => ⟨S1x1, .i32⟩
  | 35 => ⟨S20480x1, .i32⟩
  | 36 => ⟨S20480x1, .i1⟩
  | 37 => ⟨S20480x1, .i1⟩
  | 38 => ⟨S_, .i1⟩
  | 39 => ⟨S20480, .i1⟩
  | 40 => ⟨S20480x128, .f32⟩
  | 41 => ⟨S20480x128, .i1⟩
  | 42 => ⟨S_, .f32⟩
  | 43 => ⟨S20480x128, .f32⟩
  | 44 => ⟨S20480x128, .f32⟩
  | 45 => ⟨S20480x512, .f32⟩
  | 46 => ⟨S20480x384, .f32⟩
  | 47 => ⟨S2048x10x512, .f32⟩
  | 48 => ⟨S2048x10x384, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x2048, .f32⟩
  | .local _ .vmem, ⟨3, _⟩ => ⟨S1000x2048, .f32⟩
  | .local _ .vmem, ⟨4, _⟩ => ⟨S1000x2048, .f32⟩
  | .local _ .vmem, ⟨5, _⟩ => ⟨S1000x128, .f32⟩
  | .local _ .vmem, ⟨6, _⟩ => ⟨S1000x128, .f32⟩
  | .local _ .vmem, ⟨7, _⟩ => ⟨S128x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128x2048, .f32⟩
  | .local _ .vmem, ⟨13, _⟩ => ⟨S1000x2048, .f32⟩
  | .local _ .vmem, ⟨14, _⟩ => ⟨S1000x2048, .f32⟩
  | .local _ .vmem, ⟨15, _⟩ => ⟨S1000x128, .f32⟩
  | .local _ .vmem, ⟨16, _⟩ => ⟨S1000x128, .f32⟩
  | .local _ .vmem, ⟨17, _⟩ => ⟨S128x128, .f32⟩
  | .local _ .vmem, ⟨18, _⟩ => ⟨S1000x128, .f32⟩
  | .local _ .vmem, ⟨19, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v11 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v12 : Ref sig .tc := ⟨.hbm, 73, rfl⟩
abbrev main_v13 : Ref sig .tc := ⟨.hbm, 74, rfl⟩
abbrev main_cst : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_cst_0 : Ref sig .tc := ⟨.hbm, 79, rfl⟩
abbrev main_v17 : Ref sig .tc := ⟨.hbm, 80, rfl⟩
abbrev main_cst_1 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_cst_2 : Ref sig .tc := ⟨.hbm, 85, rfl⟩
abbrev main_call2_v0 : Ref sig .tc := ⟨.hbm, 86, rfl⟩
abbrev main_call2_v1 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_call3_cst : Ref sig .tc := ⟨.hbm, 94, rfl⟩
abbrev main_call3_v0 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_call4_cst : Ref sig .tc := ⟨.hbm, 121, rfl⟩
abbrev main_call4_v15 : Ref sig .tc := ⟨.hbm, 122, rfl⟩
abbrev main_v32 : Ref sig .tc := ⟨.hbm, 123, rfl⟩
abbrev main_call5_c : Ref sig .tc := ⟨.hbm, 124, rfl⟩
abbrev main_call5_v0 : Ref sig .tc := ⟨.hbm, 125, rfl⟩
abbrev main_call5_v1 : Ref sig .tc := ⟨.hbm, 126, rfl⟩
abbrev main_call5_c_0 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_call5_v5 : Ref sig .tc := ⟨.hbm, 131, rfl⟩
abbrev main_call5_c_1 : Ref sig .tc := ⟨.hbm, 132, rfl⟩
abbrev main_call5_c_2 : Ref sig .tc := ⟨.hbm, 133, rfl⟩
abbrev main_call5_v6 : Ref sig .tc := ⟨.hbm, 134, rfl⟩
abbrev main_call5_v7 : Ref sig .tc := ⟨.hbm, 135, rfl⟩
abbrev main_call5_v8 : Ref sig .tc := ⟨.hbm, 136, rfl⟩
abbrev main_call5_v9 : Ref sig .tc := ⟨.hbm, 137, rfl⟩
abbrev main_call5_v10 : Ref sig .tc := ⟨.hbm, 138, rfl⟩
abbrev main_call5_v11 : Ref sig .tc := ⟨.hbm, 139, rfl⟩
abbrev main_call5_c_3 : Ref sig .tc := ⟨.hbm, 140, rfl⟩
abbrev main_call5_v12 : Ref sig .tc := ⟨.hbm, 141, rfl⟩
abbrev main_call5_v13 : Ref sig .tc := ⟨.hbm, 142, rfl⟩
abbrev main_call5_v14 : Ref sig .tc := ⟨.hbm, 143, rfl⟩
abbrev main_call5_cst : Ref sig .tc := ⟨.hbm, 144, rfl⟩
abbrev main_call5_v15 : Ref sig .tc := ⟨.hbm, 145, rfl⟩
abbrev main_v33 : Ref sig .tc := ⟨.hbm, 146, rfl⟩
abbrev main_v34 : Ref sig .tc := ⟨.hbm, 147, rfl⟩
abbrev main_cst_3 : Ref sig .tc := ⟨.hbm, 148, rfl⟩
abbrev main_v35 : Ref sig .tc := ⟨.hbm, 149, rfl⟩
abbrev main_v36 : Ref sig .tc := ⟨.hbm, 150, rfl⟩
abbrev main_v37 : Ref sig .tc := ⟨.hbm, 151, rfl⟩
abbrev main_cst_4 : Ref sig .tc := ⟨.hbm, 152, rfl⟩
abbrev main_v38 : Ref sig .tc := ⟨.hbm, 153, rfl⟩
abbrev main_cst_5 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_cst_6 : Ref sig .tc := ⟨.hbm, 158, rfl⟩
abbrev main_call6_v0 : Ref sig .tc := ⟨.hbm, 159, rfl⟩
abbrev main_call6_v1 : Ref sig .tc := ⟨.hbm, 160, rfl⟩
abbrev main_v42 : Ref sig .tc := ⟨.hbm, 161, rfl⟩
abbrev main_v43 : Ref sig .tc := ⟨.hbm, 162, rfl⟩
abbrev main_v44 : Ref sig .tc := ⟨.hbm, 163, rfl⟩
abbrev main_v45 : Ref sig .tc := ⟨.hbm, 164, rfl⟩
abbrev main_v46 : Ref sig .tc := ⟨.hbm, 165, rfl⟩
abbrev main_v47 : Ref sig .tc := ⟨.hbm, 166, rfl⟩
abbrev main_call7_c : Ref sig .tc := ⟨.hbm, 167, rfl⟩
abbrev main_call7_v0 : Ref sig .tc := ⟨.hbm, 168, rfl⟩
abbrev main_call7_v1 : Ref sig .tc := ⟨.hbm, 169, rfl⟩
abbrev main_call7_c_0 : Ref sig .tc := ⟨.hbm, 170, rfl⟩
abbrev main_call7_v2 : Ref sig .tc := ⟨.hbm, 171, rfl⟩
abbrev main_call7_v3 : Ref sig .tc := ⟨.hbm, 172, rfl⟩
abbrev main_call7_v4 : Ref sig .tc := ⟨.hbm, 173, rfl⟩
abbrev main_call7_v5 : Ref sig .tc := ⟨.hbm, 174, rfl⟩
abbrev main_call7_c_1 : Ref sig .tc := ⟨.hbm, 175, rfl⟩
abbrev main_call7_c_2 : Ref sig .tc := ⟨.hbm, 176, rfl⟩
abbrev main_call7_v6 : Ref sig .tc := ⟨.hbm, 177, rfl⟩
abbrev main_call7_v7 : Ref sig .tc := ⟨.hbm, 178, rfl⟩
abbrev main_call7_v8 : Ref sig .tc := ⟨.hbm, 179, rfl⟩
abbrev main_call7_v9 : Ref sig .tc := ⟨.hbm, 180, rfl⟩
abbrev main_call7_v10 : Ref sig .tc := ⟨.hbm, 181, rfl⟩
abbrev main_call7_v11 : Ref sig .tc := ⟨.hbm, 182, rfl⟩
abbrev main_call7_c_3 : Ref sig .tc := ⟨.hbm, 183, rfl⟩
abbrev main_call7_v12 : Ref sig .tc := ⟨.hbm, 184, rfl⟩
abbrev main_call7_v13 : Ref sig .tc := ⟨.hbm, 185, rfl⟩
abbrev main_call7_v14 : Ref sig .tc := ⟨.hbm, 186, rfl⟩
abbrev main_call7_cst : Ref sig .tc := ⟨.hbm, 187, rfl⟩
abbrev main_call7_v15 : Ref sig .tc := ⟨.hbm, 188, rfl⟩
abbrev main_v48 : Ref sig .tc := ⟨.hbm, 189, rfl⟩
abbrev main_v49 : Ref sig .tc := ⟨.hbm, 190, rfl⟩
abbrev main_c_7 : Ref sig .tc := ⟨.hbm, 191, rfl⟩
abbrev main_call8_v0 : Ref sig .tc := ⟨.hbm, 192, rfl⟩
abbrev main_call8_v1 : Ref sig .tc := ⟨.hbm, 193, rfl⟩
abbrev main_call8_v2 : Ref sig .tc := ⟨.hbm, 194, rfl⟩
abbrev main_call8_v3 : Ref sig .tc := ⟨.hbm, 195, rfl⟩
abbrev main_call8_v4 : Ref sig .tc := ⟨.hbm, 196, rfl⟩
abbrev main_call8_v5 : Ref sig .tc := ⟨.hbm, 197, rfl⟩
abbrev main_call8_v6 : Ref sig .tc := ⟨.hbm, 198, rfl⟩
abbrev main_call8_v7 : Ref sig .tc := ⟨.hbm, 199, rfl⟩
abbrev main_call8_v8 : Ref sig .tc := ⟨.hbm, 200, rfl⟩
abbrev main_call8_c : Ref sig .tc := ⟨.hbm, 201, rfl⟩
abbrev main_call8_v9 : Ref sig .tc := ⟨.hbm, 202, rfl⟩
abbrev main_call8_v10 : Ref sig .tc := ⟨.hbm, 203, rfl⟩
abbrev main_call8_v11 : Ref sig .tc := ⟨.hbm, 204, rfl⟩
abbrev main_call8_c_0 : Ref sig .tc := ⟨.hbm, 205, rfl⟩
abbrev main_call8_v12 : Ref sig .tc := ⟨.hbm, 206, rfl⟩
abbrev main_call8_v13 : Ref sig .tc := ⟨.hbm, 207, rfl⟩
abbrev main_v50 : Ref sig .tc := ⟨.hbm, 208, rfl⟩
abbrev main_call9_c : Ref sig .tc := ⟨.hbm, 209, rfl⟩
abbrev main_call9_v0 : Ref sig .tc := ⟨.hbm, 210, rfl⟩
abbrev main_call9_v1 : Ref sig .tc := ⟨.hbm, 211, rfl⟩
abbrev main_call9_c_0 : Ref sig .tc := ⟨.hbm, 212, rfl⟩
abbrev main_call9_v2 : Ref sig .tc := ⟨.hbm, 213, rfl⟩
abbrev main_call9_v3 : Ref sig .tc := ⟨.hbm, 214, rfl⟩
abbrev main_call9_v4 : Ref sig .tc := ⟨.hbm, 215, rfl⟩
abbrev main_call9_v5 : Ref sig .tc := ⟨.hbm, 216, rfl⟩
abbrev main_call9_c_1 : Ref sig .tc := ⟨.hbm, 217, rfl⟩
abbrev main_call9_c_2 : Ref sig .tc := ⟨.hbm, 218, rfl⟩
abbrev main_call9_v6 : Ref sig .tc := ⟨.hbm, 219, rfl⟩
abbrev main_call9_v7 : Ref sig .tc := ⟨.hbm, 220, rfl⟩
abbrev main_call9_v8 : Ref sig .tc := ⟨.hbm, 221, rfl⟩
abbrev main_call9_v9 : Ref sig .tc := ⟨.hbm, 222, rfl⟩
abbrev main_call9_v10 : Ref sig .tc := ⟨.hbm, 223, rfl⟩
abbrev main_call9_v11 : Ref sig .tc := ⟨.hbm, 224, rfl⟩
abbrev main_call9_c_3 : Ref sig .tc := ⟨.hbm, 225, rfl⟩
abbrev main_call9_v12 : Ref sig .tc := ⟨.hbm, 226, rfl⟩
abbrev main_call9_v13 : Ref sig .tc := ⟨.hbm, 227, rfl⟩
abbrev main_call9_v14 : Ref sig .tc := ⟨.hbm, 228, rfl⟩
abbrev main_call9_cst : Ref sig .tc := ⟨.hbm, 229, rfl⟩
abbrev main_call9_v15 : Ref sig .tc := ⟨.hbm, 230, rfl⟩
abbrev main_v51 : Ref sig .tc := ⟨.hbm, 231, rfl⟩
abbrev main_call10_c : Ref sig .tc := ⟨.hbm, 232, rfl⟩
abbrev main_call10_v0 : Ref sig .tc := ⟨.hbm, 233, rfl⟩
abbrev main_call10_v1 : Ref sig .tc := ⟨.hbm, 234, rfl⟩
abbrev main_call10_c_0 : Ref sig .tc := ⟨.hbm, 235, rfl⟩
abbrev main_call10_v2 : Ref sig .tc := ⟨.hbm, 236, rfl⟩
abbrev main_call10_v3 : Ref sig .tc := ⟨.hbm, 237, rfl⟩
abbrev main_call10_v4 : Ref sig .tc := ⟨.hbm, 238, rfl⟩
abbrev main_call10_v5 : Ref sig .tc := ⟨.hbm, 239, rfl⟩
abbrev main_call10_c_1 : Ref sig .tc := ⟨.hbm, 240, rfl⟩
abbrev main_call10_c_2 : Ref sig .tc := ⟨.hbm, 241, rfl⟩
abbrev main_call10_v6 : Ref sig .tc := ⟨.hbm, 242, rfl⟩
abbrev main_call10_v7 : Ref sig .tc := ⟨.hbm, 243, rfl⟩
abbrev main_call10_v8 : Ref sig .tc := ⟨.hbm, 244, rfl⟩
abbrev main_call10_v9 : Ref sig .tc := ⟨.hbm, 245, rfl⟩
abbrev main_call10_v10 : Ref sig .tc := ⟨.hbm, 246, rfl⟩
abbrev main_call10_v11 : Ref sig .tc := ⟨.hbm, 247, rfl⟩
abbrev main_call10_c_3 : Ref sig .tc := ⟨.hbm, 248, rfl⟩
abbrev main_call10_v12 : Ref sig .tc := ⟨.hbm, 249, rfl⟩
abbrev main_call10_v13 : Ref sig .tc := ⟨.hbm, 250, rfl⟩
abbrev main_call10_v14 : Ref sig .tc := ⟨.hbm, 251, rfl⟩
abbrev main_call10_cst : Ref sig .tc := ⟨.hbm, 252, rfl⟩
abbrev main_call10_v15 : Ref sig .tc := ⟨.hbm, 253, rfl⟩
abbrev main_v52 : Ref sig .tc := ⟨.hbm, 254, rfl⟩
abbrev main_call11_c : Ref sig .tc := ⟨.hbm, 255, rfl⟩
abbrev main_call11_v0 : Ref sig .tc := ⟨.hbm, 256, rfl⟩
abbrev main_call11_v1 : Ref sig .tc := ⟨.hbm, 257, rfl⟩
abbrev main_call11_c_0 : Ref sig .tc := ⟨.hbm, 258, rfl⟩
abbrev main_call11_v2 : Ref sig .tc := ⟨.hbm, 259, rfl⟩
abbrev main_call11_v3 : Ref sig .tc := ⟨.hbm, 260, rfl⟩
abbrev main_call11_v4 : Ref sig .tc := ⟨.hbm, 261, rfl⟩
abbrev main_call11_v5 : Ref sig .tc := ⟨.hbm, 262, rfl⟩
abbrev main_call11_c_1 : Ref sig .tc := ⟨.hbm, 263, rfl⟩
abbrev main_call11_c_2 : Ref sig .tc := ⟨.hbm, 264, rfl⟩
abbrev main_call11_v6 : Ref sig .tc := ⟨.hbm, 265, rfl⟩
abbrev main_call11_v7 : Ref sig .tc := ⟨.hbm, 266, rfl⟩
abbrev main_call11_v8 : Ref sig .tc := ⟨.hbm, 267, rfl⟩
abbrev main_call11_v9 : Ref sig .tc := ⟨.hbm, 268, rfl⟩
abbrev main_call11_v10 : Ref sig .tc := ⟨.hbm, 269, rfl⟩
abbrev main_call11_v11 : Ref sig .tc := ⟨.hbm, 270, rfl⟩
abbrev main_call11_c_3 : Ref sig .tc := ⟨.hbm, 271, rfl⟩
abbrev main_call11_v12 : Ref sig .tc := ⟨.hbm, 272, rfl⟩
abbrev main_call11_v13 : Ref sig .tc := ⟨.hbm, 273, rfl⟩
abbrev main_call11_v14 : Ref sig .tc := ⟨.hbm, 274, rfl⟩
abbrev main_call11_cst : Ref sig .tc := ⟨.hbm, 275, rfl⟩
abbrev main_call11_v15 : Ref sig .tc := ⟨.hbm, 276, rfl⟩
abbrev main_v53 : Ref sig .tc := ⟨.hbm, 277, rfl⟩
abbrev main_call12_c : Ref sig .tc := ⟨.hbm, 278, rfl⟩
abbrev main_call12_v0 : Ref sig .tc := ⟨.hbm, 279, rfl⟩
abbrev main_call12_v1 : Ref sig .tc := ⟨.hbm, 280, rfl⟩
abbrev main_call12_c_0 : Ref sig .tc := ⟨.hbm, 281, rfl⟩
abbrev main_call12_v2 : Ref sig .tc := ⟨.hbm, 282, rfl⟩
abbrev main_call12_v3 : Ref sig .tc := ⟨.hbm, 283, rfl⟩
abbrev main_call12_v4 : Ref sig .tc := ⟨.hbm, 284, rfl⟩
abbrev main_call12_v5 : Ref sig .tc := ⟨.hbm, 285, rfl⟩
abbrev main_call12_c_1 : Ref sig .tc := ⟨.hbm, 286, rfl⟩
abbrev main_call12_c_2 : Ref sig .tc := ⟨.hbm, 287, rfl⟩
abbrev main_call12_v6 : Ref sig .tc := ⟨.hbm, 288, rfl⟩
abbrev main_call12_v7 : Ref sig .tc := ⟨.hbm, 289, rfl⟩
abbrev main_call12_v8 : Ref sig .tc := ⟨.hbm, 290, rfl⟩
abbrev main_call12_v9 : Ref sig .tc := ⟨.hbm, 291, rfl⟩
abbrev main_call12_v10 : Ref sig .tc := ⟨.hbm, 292, rfl⟩
abbrev main_call12_v11 : Ref sig .tc := ⟨.hbm, 293, rfl⟩
abbrev main_call12_c_3 : Ref sig .tc := ⟨.hbm, 294, rfl⟩
abbrev main_call12_v12 : Ref sig .tc := ⟨.hbm, 295, rfl⟩
abbrev main_call12_v13 : Ref sig .tc := ⟨.hbm, 296, rfl⟩
abbrev main_call12_v14 : Ref sig .tc := ⟨.hbm, 297, rfl⟩
abbrev main_call12_cst : Ref sig .tc := ⟨.hbm, 298, rfl⟩
abbrev main_call12_v15 : Ref sig .tc := ⟨.hbm, 299, rfl⟩
abbrev main_v54 : Ref sig .tc := ⟨.hbm, 300, rfl⟩
abbrev main_v55 : Ref sig .tc := ⟨.hbm, 301, rfl⟩
abbrev main_v56 : Ref sig .tc := ⟨.hbm, 302, rfl⟩
abbrev main_v57 : Ref sig .tc := ⟨.hbm, 303, rfl⟩
abbrev main_v58 : Ref sig .tc := ⟨.hbm, 304, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== ReferenceIdeal.lean ====
abbrev S10000x128 : Shape := ⟨2, ![10000, 128]⟩
abbrev S460x128 : Shape := ⟨2, ![460, 128]⟩
abbrev S20480x128 : Shape := ⟨2, ![20480, 128]⟩
abbrev S16x128x128 : Shape := ⟨3, ![16, 128, 128]⟩
abbrev S460x16 : Shape := ⟨2, ![460, 16]⟩
abbrev S128x128 : Shape := ⟨2, ![128, 128]⟩
abbrev S2x40000 : Shape := ⟨2, ![2, 40000]⟩
abbrev S40000 : Shape := ⟨1, ![40000]⟩
abbrev S20480 : Shape := ⟨1, ![20480]⟩
abbrev S2048 : Shape := ⟨1, ![2048]⟩
abbrev S_ : Shape := ⟨0, ![]⟩
abbrev S1x40000 : Shape := ⟨2, ![1, 40000]⟩
abbrev S10000x16x128 : Shape := ⟨3, ![10000, 16, 128]⟩
abbrev S40000x1 : Shape := ⟨2, ![40000, 1]⟩
abbrev S1 : Shape := ⟨1, ![1]⟩
abbrev S1x1 : Shape := ⟨2, ![1, 1]⟩
abbrev S40000x16 : Shape := ⟨2, ![40000, 16]⟩
abbrev S40000x16x128 : Shape := ⟨3, ![40000, 16, 128]⟩
abbrev S40000x128 : Shape := ⟨2, ![40000, 128]⟩
abbrev S10000 : Shape := ⟨1, ![10000]⟩
abbrev S10000x1 : Shape := ⟨2, ![10000, 1]⟩
abbrev S20480x1 : Shape := ⟨2, ![20480, 1]⟩
abbrev S2049 : Shape := ⟨1, ![2049]⟩
abbrev S1x2048 : Shape := ⟨2, ![1, 2048]⟩
abbrev S20480x2048 : Shape := ⟨2, ![20480, 2048]⟩
abbrev S2048x1 : Shape := ⟨2, ![2048, 1]⟩
abbrev S2048x128 : Shape := ⟨2, ![2048, 128]⟩
abbrev S20480x512 : Shape := ⟨2, ![20480, 512]⟩
abbrev S20480x384 : Shape := ⟨2, ![20480, 384]⟩
abbrev S2048x10x512 : Shape := ⟨3, ![2048, 10, 512]⟩
abbrev S20480x2 : Shape := ⟨2, ![20480, 2]⟩
abbrev S2048x10x384 : Shape := ⟨3, ![2048, 10, 384]⟩

abbrev nBuf : Space → Nat
  | .hbm => 344
  | .vmem => 0
  | .smem => 0
  | _ => 0

abbrev hbmTy0_0 (i : Nat) : BufTy := match i % 128 with
  | 0 => ⟨S10000x128, .f32⟩
  | 1 => ⟨S460x128, .f32⟩
  | 2 => ⟨S20480x128, .f32⟩
  | 3 => ⟨S16x128x128, .f32⟩
  | 4 => ⟨S460x16, .f32⟩
  | 5 => ⟨S128x128, .f32⟩
  | 6 => ⟨S16x128x128, .f32⟩
  | 7 => ⟨S460x16, .f32⟩
  | 8 => ⟨S128x128, .f32⟩
  | 9 => ⟨S2x40000, .i32⟩
  | 10 => ⟨S40000, .i32⟩
  | 11 => ⟨S20480, .i32⟩
  | 12 => ⟨S2048, .i32⟩
  | 13 => ⟨S2048, .i32⟩
  | 14 => ⟨S2048, .i32⟩
  | 15 => ⟨S_, .i32⟩
  | 16 => ⟨S1x40000, .i32⟩
  | 17 => ⟨S40000, .i32⟩
  | 18 => ⟨S1x40000, .i32⟩
  | 19 => ⟨S40000, .i32⟩
  | 20 => ⟨S_, .i32⟩
  | 21 => ⟨S_, .i32⟩
  | 22 => ⟨S40000, .i32⟩
  | 23 => ⟨S40000, .i32⟩
  | 24 => ⟨S10000x16x128, .f32⟩
  | 25 => ⟨S_, .i32⟩
  | 26 => ⟨S40000, .i32⟩
  | 27 => ⟨S40000, .i1⟩
  | 28 => ⟨S_, .i32⟩
  | 29 => ⟨S40000, .i32⟩
  | 30 => ⟨S40000, .i32⟩
  | 31 => ⟨S40000, .i32⟩
  | 32 => ⟨S40000x1, .i32⟩
  | 33 => ⟨S1, .i32⟩
  | 34 => ⟨S_, .i32⟩
  | 35 => ⟨S40000x1, .i32⟩
  | 36 => ⟨S40000x1, .i1⟩
  | 37 => ⟨S1x1, .i32⟩
  | 38 => ⟨S40000x1, .i32⟩
  | 39 => ⟨S40000x1, .i1⟩
  | 40 => ⟨S40000x1, .i1⟩
  | 41 => ⟨S_, .i1⟩
  | 42 => ⟨S40000, .i1⟩
  | 43 => ⟨S40000x16, .f32⟩
  | 44 => ⟨S40000x16, .i1⟩
  | 45 => ⟨S_, .f32⟩
  | 46 => ⟨S40000x16, .f32⟩
  | 47 => ⟨S40000x16, .f32⟩
  | 48 => ⟨S_, .i32⟩
  | 49 => ⟨S40000, .i32⟩
  | 50 => ⟨S40000, .i1⟩
  | 51 => ⟨S_, .i32⟩
  | 52 => ⟨S40000, .i32⟩
  | 53 => ⟨S40000, .i32⟩
  | 54 => ⟨S40000, .i32⟩
  | 55 => ⟨S40000x1, .i32⟩
  | 56 => ⟨S1, .i32⟩
  | 57 => ⟨S_, .i32⟩
  | 58 => ⟨S40000x1, .i32⟩
  | 59 => ⟨S40000x1, .i1⟩
  | 60 => ⟨S1x1, .i32⟩
  | 61 => ⟨S40000x1, .i32⟩
  | 62 => ⟨S40000x1, .i1⟩
  | 63 => ⟨S40000x1, .i1⟩
  | 64 => ⟨S_, .i1⟩
  | 65 => ⟨S40000, .i1⟩
  | 66 => ⟨S40000x16x128, .f32⟩
  | 67 => ⟨S40000x16x128, .i1⟩
  | 68 => ⟨S_, .f32⟩
  | 69 => ⟨S40000x16x128, .f32⟩
  | 70 => ⟨S40000x16x128, .f32⟩
  | 71 => ⟨S40000x128, .f32⟩
  | 72 => ⟨S_, .f32⟩
  | 73 => ⟨S10000x128, .f32⟩
  | 74 => ⟨S40000x1, .i32⟩
  | 75 => ⟨S10000x128, .f32⟩
  | 76 => ⟨S_, .f32⟩
  | 77 => ⟨S40000, .f32⟩
  | 78 => ⟨S_, .f32⟩
  | 79 => ⟨S10000, .f32⟩
  | 80 => ⟨S40000x1, .i32⟩
  | 81 => ⟨S10000, .f32⟩
  | 82 => ⟨S_, .f32⟩
  | 83 => ⟨S_, .f32⟩
  | 84 => ⟨S10000, .f32⟩
  | 85 => ⟨S10000, .f32⟩
  | 86 => ⟨S10000x1, .f32⟩
  | 87 => ⟨S10000x128, .f32⟩
  | 88 => ⟨S10000x128, .f32⟩
  | 89 => ⟨S10000x128, .f32⟩
  | 90 => ⟨S10000x128, .f32⟩
  | 91 => ⟨S_, .f32⟩
  | 92 => ⟨S10000x128, .f32⟩
  | 93 => ⟨S10000x128, .f32⟩
  | 94 => ⟨S10000x16x128, .f32⟩
  | 95 => ⟨S_, .i32⟩
  | 96 => ⟨S40000, .i32⟩
  | 97 => ⟨S40000, .i1⟩
  | 98 => ⟨S_, .i32⟩
  | 99 => ⟨S40000, .i32⟩
  | 100 => ⟨S40000, .i32⟩
  | 101 => ⟨S40000, .i32⟩
  | 102 => ⟨S40000x1, .i32⟩
  | 103 => ⟨S1, .i32⟩
  | 104 => ⟨S_, .i32⟩
  | 105 => ⟨S40000x1, .i32⟩
  | 106 => ⟨S40000x1, .i1⟩
  | 107 => ⟨S1x1, .i32⟩
  | 108 => ⟨S40000x1, .i32⟩
  | 109 => ⟨S40000x1, .i1⟩
  | 110 => ⟨S40000x1, .i1⟩
  | 111 => ⟨S_, .i1⟩
  | 112 => ⟨S40000, .i1⟩
  | 113 => ⟨S40000x16, .f32⟩
  | 114 => ⟨S40000x16, .i1⟩
  | 115 => ⟨S_, .f32⟩
  | 116 => ⟨S40000x16, .f32⟩
  | 117 => ⟨S40000x16, .f32⟩
  | 118 => ⟨S_, .i32⟩
  | 119 => ⟨S40000, .i32⟩
  | 120 => ⟨S40000, .i1⟩
  | 121 => ⟨S_, .i32⟩
  | 122 => ⟨S40000, .i32⟩
  | 123 => ⟨S40000, .i32⟩
  | 124 => ⟨S40000, .i32⟩
  | 125 => ⟨S40000x1, .i32⟩
  | 126 => ⟨S1, .i32⟩
  | 127 => ⟨S_, .i32⟩
  | _ => ⟨S10000x128, .f32⟩

abbrev hbmTy0_1 (i : Nat) : BufTy := match i % 128 with
  | 0 => ⟨S40000x1, .i32⟩
  | 1 => ⟨S40000x1, .i1⟩
  | 2 => ⟨S1x1, .i32⟩
  | 3 => ⟨S40000x1, .i32⟩
  | 4 => ⟨S40000x1, .i1⟩
  | 5 => ⟨S40000x1, .i1⟩
  | 6 => ⟨S_, .i1⟩
  | 7 => ⟨S40000, .i1⟩
  | 8 => ⟨S40000x16x128, .f32⟩
  | 9 => ⟨S40000x16x128, .i1⟩
  | 10 => ⟨S_, .f32⟩
  | 11 => ⟨S40000x16x128, .f32⟩
  | 12 => ⟨S40000x16x128, .f32⟩
  | 13 => ⟨S40000x128, .f32⟩
  | 14 => ⟨S_, .f32⟩
  | 15 => ⟨S10000x128, .f32⟩
  | 16 => ⟨S40000x1, .i32⟩
  | 17 => ⟨S10000x128, .f32⟩
  | 18 => ⟨S_, .f32⟩
  | 19 => ⟨S40000, .f32⟩
  | 20 => ⟨S_, .f32⟩
  | 21 => ⟨S10000, .f32⟩
  | 22 => ⟨S40000x1, .i32⟩
  | 23 => ⟨S10000, .f32⟩
  | 24 => ⟨S_, .f32⟩
  | 25 => ⟨S_, .f32⟩
  | 26 => ⟨S10000, .f32⟩
  | 27 => ⟨S10000, .f32⟩
  | 28 => ⟨S10000x1, .f32⟩
  | 29 => ⟨S10000x128, .f32⟩
  | 30 => ⟨S10000x128, .f32⟩
  | 31 => ⟨S10000x128, .f32⟩
  | 32 => ⟨S10000x128, .f32⟩
  | 33 => ⟨S_, .i32⟩
  | 34 => ⟨S20480, .i32⟩
  | 35 => ⟨S20480, .i1⟩
  | 36 => ⟨S_, .i32⟩
  | 37 => ⟨S20480, .i32⟩
  | 38 => ⟨S20480, .i32⟩
  | 39 => ⟨S20480, .i32⟩
  | 40 => ⟨S20480x1, .i32⟩
  | 41 => ⟨S1, .i32⟩
  | 42 => ⟨S_, .i32⟩
  | 43 => ⟨S20480x1, .i32⟩
  | 44 => ⟨S20480x1, .i1⟩
  | 45 => ⟨S1x1, .i32⟩
  | 46 => ⟨S20480x1, .i32⟩
  | 47 => ⟨S20480x1, .i1⟩
  | 48 => ⟨S20480x1, .i1⟩
  | 49 => ⟨S_, .i1⟩
  | 50 => ⟨S20480, .i1⟩
  | 51 => ⟨S20480x128, .f32⟩
  | 52 => ⟨S20480x128, .i1⟩
  | 53 => ⟨S_, .f32⟩
  | 54 => ⟨S20480x128, .f32⟩
  | 55 => ⟨S20480x128, .f32⟩
  | 56 => ⟨S_, .i32⟩
  | 57 => ⟨S1, .i32⟩
  | 58 => ⟨S_, .i32⟩
  | 59 => ⟨S_, .i32⟩
  | 60 => ⟨S2048, .i32⟩
  | 61 => ⟨S2049, .i32⟩
  | 62 => ⟨S20480, .i32⟩
  | 63 => ⟨S2048, .i32⟩
  | 64 => ⟨S1x2048, .i32⟩
  | 65 => ⟨S20480x1, .i32⟩
  | 66 => ⟨S20480x2048, .i32⟩
  | 67 => ⟨S20480x2048, .i32⟩
  | 68 => ⟨S20480x2048, .i1⟩
  | 69 => ⟨S20480x2048, .i32⟩
  | 70 => ⟨S_, .i32⟩
  | 71 => ⟨S20480, .i32⟩
  | 72 => ⟨S_, .i32⟩
  | 73 => ⟨S20480, .i32⟩
  | 74 => ⟨S20480, .i1⟩
  | 75 => ⟨S_, .i32⟩
  | 76 => ⟨S20480, .i32⟩
  | 77 => ⟨S20480, .i32⟩
  | 78 => ⟨S20480, .i32⟩
  | 79 => ⟨S20480x1, .i32⟩
  | 80 => ⟨S20480, .i32⟩
  | 81 => ⟨S20480, .i32⟩
  | 82 => ⟨S_, .i32⟩
  | 83 => ⟨S2048, .i32⟩
  | 84 => ⟨S2048, .i1⟩
  | 85 => ⟨S_, .i32⟩
  | 86 => ⟨S2048, .i32⟩
  | 87 => ⟨S2048, .i32⟩
  | 88 => ⟨S2048, .i32⟩
  | 89 => ⟨S2048x1, .i32⟩
  | 90 => ⟨S1, .i32⟩
  | 91 => ⟨S_, .i32⟩
  | 92 => ⟨S2048x1, .i32⟩
  | 93 => ⟨S2048x1, .i1⟩
  | 94 => ⟨S1x1, .i32⟩
  | 95 => ⟨S2048x1, .i32⟩
  | 96 => ⟨S2048x1, .i1⟩
  | 97 => ⟨S2048x1, .i1⟩
  | 98 => ⟨S_, .i1⟩
  | 99 => ⟨S2048, .i1⟩
  | 100 => ⟨S2048x128, .f32⟩
  | 101 => ⟨S2048x128, .i1⟩
  | 102 => ⟨S_, .f32⟩
  | 103 => ⟨S2048x128, .f32⟩
  | 104 => ⟨S2048x128, .f32⟩
  | 105 => ⟨S_, .i32⟩
  | 106 => ⟨S20480, .i32⟩
  | 107 => ⟨S20480, .i1⟩
  | 108 => ⟨S_, .i32⟩
  | 109 => ⟨S20480, .i32⟩
  | 110 => ⟨S20480, .i32⟩
  | 111 => ⟨S20480, .i32⟩
  | 112 => ⟨S20480x1, .i32⟩
  | 113 => ⟨S1, .i32⟩
  | 114 => ⟨S_, .i32⟩
  | 115 => ⟨S20480x1, .i32⟩
  | 116 => ⟨S20480x1, .i1⟩
  | 117 => ⟨S1x1, .i32⟩
  | 118 => ⟨S20480x1, .i32⟩
  | 119 => ⟨S20480x1, .i1⟩
  | 120 => ⟨S20480x1, .i1⟩
  | 121 => ⟨S_, .i1⟩
  | 122 => ⟨S20480, .i1⟩
  | 123 => ⟨S20480x128, .f32⟩
  | 124 => ⟨S20480x128, .i1⟩
  | 125 => ⟨S_, .f32⟩
  | 126 => ⟨S20480x128, .f32⟩
  | 127 => ⟨S20480x128, .f32⟩
  | _ => ⟨S10000x128, .f32⟩

abbrev hbmTy0_2 (i : Nat) : BufTy := match i % 128 with
  | 0 => ⟨S_, .i32⟩
  | 1 => ⟨S2048, .i32⟩
  | 2 => ⟨S2048, .i1⟩
  | 3 => ⟨S_, .i32⟩
  | 4 => ⟨S2048, .i32⟩
  | 5 => ⟨S2048, .i32⟩
  | 6 => ⟨S2048, .i32⟩
  | 7 => ⟨S2048x1, .i32⟩
  | 8 => ⟨S1, .i32⟩
  | 9 => ⟨S_, .i32⟩
  | 10 => ⟨S2048x1, .i32⟩
  | 11 => ⟨S2048x1, .i1⟩
  | 12 => ⟨S1x1, .i32⟩
  | 13 => ⟨S2048x1, .i32⟩
  | 14 => ⟨S2048x1, .i1⟩
  | 15 => ⟨S2048x1, .i1⟩
  | 16 => ⟨S_, .i1⟩
  | 17 => ⟨S2048, .i1⟩
  | 18 => ⟨S2048x128, .f32⟩
  | 19 => ⟨S2048x128, .i1⟩
  | 20 => ⟨S_, .f32⟩
  | 21 => ⟨S2048x128, .f32⟩
  | 22 => ⟨S2048x128, .f32⟩
  | 23 => ⟨S_, .i32⟩
  | 24 => ⟨S20480, .i32⟩
  | 25 => ⟨S20480, .i1⟩
  | 26 => ⟨S_, .i32⟩
  | 27 => ⟨S20480, .i32⟩
  | 28 => ⟨S20480, .i32⟩
  | 29 => ⟨S20480, .i32⟩
  | 30 => ⟨S20480x1, .i32⟩
  | 31 => ⟨S1, .i32⟩
  | 32 => ⟨S_, .i32⟩
  | 33 => ⟨S20480x1, .i32⟩
  | 34 => ⟨S20480x1, .i1⟩
  | 35 => ⟨S1x1, .i32⟩
  | 36 => ⟨S20480x1, .i32⟩
  | 37 => ⟨S20480x1, .i1⟩
  | 38 => ⟨S20480x1, .i1⟩
  | 39 => ⟨S_, .i1⟩
  | 40 => ⟨S20480, .i1⟩
  | 41 => ⟨S20480x128, .f32⟩
  | 42 => ⟨S20480x128, .i1⟩
  | 43 => ⟨S_, .f32⟩
  | 44 => ⟨S20480x128, .f32⟩
  | 45 => ⟨S20480x128, .f32⟩
  | 46 => ⟨S20480x512, .f32⟩
  | 47 => ⟨S20480x384, .f32⟩
  | 48 => ⟨S_, .f32⟩
  | 49 => ⟨S2048x10x512, .f32⟩
  | 50 => ⟨S_, .i32⟩
  | 51 => ⟨S20480, .i32⟩
  | 52 => ⟨S20480, .i1⟩
  | 53 => ⟨S_, .i32⟩
  | 54 => ⟨S20480, .i32⟩
  | 55 => ⟨S20480, .i32⟩
  | 56 => ⟨S20480, .i32⟩
  | 57 => ⟨S_, .i32⟩
  | 58 => ⟨S20480, .i32⟩
  | 59 => ⟨S20480, .i1⟩
  | 60 => ⟨S_, .i32⟩
  | 61 => ⟨S20480, .i32⟩
  | 62 => ⟨S20480, .i32⟩
  | 63 => ⟨S20480, .i32⟩
  | 64 => ⟨S20480x1, .i32⟩
  | 65 => ⟨S20480x1, .i32⟩
  | 66 => ⟨S20480x2, .i32⟩
  | 67 => ⟨S2048x10x512, .f32⟩
  | 68 => ⟨S_, .f32⟩
  | 69 => ⟨S2048x10x384, .f32⟩
  | 70 => ⟨S_, .i32⟩
  | 71 => ⟨S20480, .i32⟩
  | 72 => ⟨S20480, .i1⟩
  | 73 => ⟨S_, .i32⟩
  | 74 => ⟨S20480, .i32⟩
  | 75 => ⟨S20480, .i32⟩
  | 76 => ⟨S20480, .i32⟩
  | 77 => ⟨S_, .i32⟩
  | 78 => ⟨S20480, .i32⟩
  | 79 => ⟨S20480, .i1⟩
  | 80 => ⟨S_, .i32⟩
  | 81 => ⟨S20480, .i32⟩
  | 82 => ⟨S20480, .i32⟩
  | 83 => ⟨S20480, .i32⟩
  | 84 => ⟨S20480x1, .i32⟩
  | 85 => ⟨S20480x1, .i32⟩
  | 86 => ⟨S20480x2, .i32⟩
  | 87 => ⟨S2048x10x384, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v8 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v9 : Ref sig .tc := ⟨.hbm, 70, rfl⟩
abbrev main_v10 : Ref sig .tc := ⟨.hbm, 71, rfl⟩
abbrev main_cst : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_cst_0 : Ref sig .tc := ⟨.hbm, 76, rfl⟩
abbrev main_v14 : Ref sig .tc := ⟨.hbm, 77, rfl⟩
abbrev main_cst_1 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_cst_2 : Ref sig .tc := ⟨.hbm, 82, rfl⟩
abbrev main_call2_v0 : Ref sig .tc := ⟨.hbm, 83, rfl⟩
abbrev main_call2_v1 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_call3_cst : Ref sig .tc := ⟨.hbm, 91, rfl⟩
abbrev main_call3_v0 : Ref sig .tc := ⟨.hbm, 92, rfl⟩
abbrev main_v24 : Ref sig .tc := ⟨.hbm, 93, rfl⟩
abbrev main_v25 : Ref sig .tc := ⟨.hbm, 94, rfl⟩
abbrev main_call4_c : Ref sig .tc := ⟨.hbm, 95, rfl⟩
abbrev main_call4_v0 : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_c_1 : Ref sig .tc := ⟨.hbm, 103, rfl⟩
abbrev main_call4_c_2 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_3 : Ref sig .tc := ⟨.hbm, 111, rfl⟩
abbrev main_call4_v12 : Ref sig .tc := ⟨.hbm, 112, rfl⟩
abbrev main_call4_v13 : Ref sig .tc := ⟨.hbm, 113, rfl⟩
abbrev main_call4_v14 : Ref sig .tc := ⟨.hbm, 114, rfl⟩
abbrev main_call4_cst : Ref sig .tc := ⟨.hbm, 115, rfl⟩
abbrev main_call4_v15 : Ref sig .tc := ⟨.hbm, 116, rfl⟩
abbrev main_v26 : Ref sig .tc := ⟨.hbm, 117, rfl⟩
abbrev main_call5_c : Ref sig .tc := ⟨.hbm, 118, rfl⟩
abbrev main_call5_v0 : Ref sig .tc := ⟨.hbm, 119, rfl⟩
abbrev main_call5_v1 : Ref sig .tc := ⟨.hbm, 120, rfl⟩
abbrev main_call5_c_0 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_c_1 : Ref sig .tc := ⟨.hbm, 126, rfl⟩
abbrev main_call5_c_2 : Ref sig .tc := ⟨.hbm, 127, rfl⟩
abbrev main_call5_v6 : Ref sig .tc := ⟨.hbm, 128, rfl⟩
abbrev main_call5_v7 : Ref sig .tc := ⟨.hbm, 129, rfl⟩
abbrev main_call5_v8 : Ref sig .tc := ⟨.hbm, 130, rfl⟩
abbrev main_call5_v9 : Ref sig .tc := ⟨.hbm, 131, rfl⟩
abbrev main_call5_v10 : Ref sig .tc := ⟨.hbm, 132, rfl⟩
abbrev main_call5_v11 : Ref sig .tc := ⟨.hbm, 133, rfl⟩
abbrev main_call5_c_3 : Ref sig .tc := ⟨.hbm, 134, rfl⟩
abbrev main_call5_v12 : Ref sig .tc := ⟨.hbm, 135, rfl⟩
abbrev main_call5_v13 : Ref sig .tc := ⟨.hbm, 136, rfl⟩
abbrev main_call5_v14 : Ref sig .tc := ⟨.hbm, 137, rfl⟩
abbrev main_call5_cst : Ref sig .tc := ⟨.hbm, 138, rfl⟩
abbrev main_call5_v15 : Ref sig .tc := ⟨.hbm, 139, rfl⟩
abbrev main_v27 : Ref sig .tc := ⟨.hbm, 140, rfl⟩
abbrev main_v28 : Ref sig .tc := ⟨.hbm, 141, rfl⟩
abbrev main_cst_3 : Ref sig .tc := ⟨.hbm, 142, rfl⟩
abbrev main_v29 : Ref sig .tc := ⟨.hbm, 143, rfl⟩
abbrev main_v30 : Ref sig .tc := ⟨.hbm, 144, rfl⟩
abbrev main_v31 : Ref sig .tc := ⟨.hbm, 145, rfl⟩
abbrev main_cst_4 : Ref sig .tc := ⟨.hbm, 146, rfl⟩
abbrev main_v32 : Ref sig .tc := ⟨.hbm, 147, rfl⟩
abbrev main_cst_5 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_cst_6 : Ref sig .tc := ⟨.hbm, 152, rfl⟩
abbrev main_call6_v0 : Ref sig .tc := ⟨.hbm, 153, rfl⟩
abbrev main_call6_v1 : Ref sig .tc := ⟨.hbm, 154, rfl⟩
abbrev main_v36 : Ref sig .tc := ⟨.hbm, 155, rfl⟩
abbrev main_v37 : Ref sig .tc := ⟨.hbm, 156, rfl⟩
abbrev main_v38 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_call7_c : Ref sig .tc := ⟨.hbm, 161, rfl⟩
abbrev main_call7_v0 : Ref sig .tc := ⟨.hbm, 162, rfl⟩
abbrev main_call7_v1 : Ref sig .tc := ⟨.hbm, 163, rfl⟩
abbrev main_call7_c_0 : Ref sig .tc := ⟨.hbm, 164, rfl⟩
abbrev main_call7_v2 : Ref sig .tc := ⟨.hbm, 165, rfl⟩
abbrev main_call7_v3 : Ref sig .tc := ⟨.hbm, 166, rfl⟩
abbrev main_call7_v4 : Ref sig .tc := ⟨.hbm, 167, rfl⟩
abbrev main_call7_v5 : Ref sig .tc := ⟨.hbm, 168, rfl⟩
abbrev main_call7_c_1 : Ref sig .tc := ⟨.hbm, 169, rfl⟩
abbrev main_call7_c_2 : Ref sig .tc := ⟨.hbm, 170, rfl⟩
abbrev main_call7_v6 : Ref sig .tc := ⟨.hbm, 171, rfl⟩
abbrev main_call7_v7 : Ref sig .tc := ⟨.hbm, 172, rfl⟩
abbrev main_call7_v8 : Ref sig .tc := ⟨.hbm, 173, rfl⟩
abbrev main_call7_v9 : Ref sig .tc := ⟨.hbm, 174, rfl⟩
abbrev main_call7_v10 : Ref sig .tc := ⟨.hbm, 175, rfl⟩
abbrev main_call7_v11 : Ref sig .tc := ⟨.hbm, 176, rfl⟩
abbrev main_call7_c_3 : Ref sig .tc := ⟨.hbm, 177, rfl⟩
abbrev main_call7_v12 : Ref sig .tc := ⟨.hbm, 178, rfl⟩
abbrev main_call7_v13 : Ref sig .tc := ⟨.hbm, 179, rfl⟩
abbrev main_call7_v14 : Ref sig .tc := ⟨.hbm, 180, rfl⟩
abbrev main_call7_cst : Ref sig .tc := ⟨.hbm, 181, rfl⟩
abbrev main_call7_v15 : Ref sig .tc := ⟨.hbm, 182, rfl⟩
abbrev main_v42 : Ref sig .tc := ⟨.hbm, 183, rfl⟩
abbrev main_c_7 : Ref sig .tc := ⟨.hbm, 184, rfl⟩
abbrev main_v43 : Ref sig .tc := ⟨.hbm, 185, rfl⟩
abbrev main_call8_call0_c : Ref sig .tc := ⟨.hbm, 186, rfl⟩
abbrev main_call8_call0_v0 : Ref sig .tc := ⟨.hbm, 187, rfl⟩
abbrev main_v44 : Ref sig .tc := ⟨.hbm, 188, rfl⟩
abbrev main_v45 : Ref sig .tc := ⟨.hbm, 189, rfl⟩
abbrev main_v46 : Ref sig .tc := ⟨.hbm, 190, rfl⟩
abbrev main_v47 : Ref sig .tc := ⟨.hbm, 191, rfl⟩
abbrev main_v48 : Ref sig .tc := ⟨.hbm, 192, rfl⟩
abbrev main_v49 : Ref sig .tc := ⟨.hbm, 193, rfl⟩
abbrev main_v50 : Ref sig .tc := ⟨.hbm, 194, rfl⟩
abbrev main_v51 : Ref sig .tc := ⟨.hbm, 195, rfl⟩
abbrev main_v52 : Ref sig .tc := ⟨.hbm, 196, rfl⟩
abbrev main_v53 : Ref sig .tc := ⟨.hbm, 197, rfl⟩
abbrev main_c_8 : Ref sig .tc := ⟨.hbm, 198, rfl⟩
abbrev main_v54 : Ref sig .tc := ⟨.hbm, 199, rfl⟩
abbrev main_c_9 : Ref sig .tc := ⟨.hbm, 200, rfl⟩
abbrev main_v55 : Ref sig .tc := ⟨.hbm, 201, rfl⟩
abbrev main_v56 : Ref sig .tc := ⟨.hbm, 202, rfl⟩
abbrev main_c_10 : Ref sig .tc := ⟨.hbm, 203, rfl⟩
abbrev main_v57 : Ref sig .tc := ⟨.hbm, 204, rfl⟩
abbrev main_v58 : Ref sig .tc := ⟨.hbm, 205, rfl⟩
abbrev main_v59 : Ref sig .tc := ⟨.hbm, 206, rfl⟩
abbrev main_v60 : Ref sig .tc := ⟨.hbm, 207, rfl⟩
abbrev main_v61 : Ref sig .tc := ⟨.hbm, 208, rfl⟩
abbrev main_v62 : Ref sig .tc := ⟨.hbm, 209, rfl⟩
abbrev main_call9_c : Ref sig .tc := ⟨.hbm, 210, rfl⟩
abbrev main_call9_v0 : Ref sig .tc := ⟨.hbm, 211, rfl⟩
abbrev main_call9_v1 : Ref sig .tc := ⟨.hbm, 212, rfl⟩
abbrev main_call9_c_0 : Ref sig .tc := ⟨.hbm, 213, rfl⟩
abbrev main_call9_v2 : Ref sig .tc := ⟨.hbm, 214, rfl⟩
abbrev main_call9_v3 : Ref sig .tc := ⟨.hbm, 215, rfl⟩
abbrev main_call9_v4 : Ref sig .tc := ⟨.hbm, 216, rfl⟩
abbrev main_call9_v5 : Ref sig .tc := ⟨.hbm, 217, rfl⟩
abbrev main_call9_c_1 : Ref sig .tc := ⟨.hbm, 218, rfl⟩
abbrev main_call9_c_2 : Ref sig .tc := ⟨.hbm, 219, rfl⟩
abbrev main_call9_v6 : Ref sig .tc := ⟨.hbm, 220, rfl⟩
abbrev main_call9_v7 : Ref sig .tc := ⟨.hbm, 221, rfl⟩
abbrev main_call9_v8 : Ref sig .tc := ⟨.hbm, 222, rfl⟩
abbrev main_call9_v9 : Ref sig .tc := ⟨.hbm, 223, rfl⟩
abbrev main_call9_v10 : Ref sig .tc := ⟨.hbm, 224, rfl⟩
abbrev main_call9_v11 : Ref sig .tc := ⟨.hbm, 225, rfl⟩
abbrev main_call9_c_3 : Ref sig .tc := ⟨.hbm, 226, rfl⟩
abbrev main_call9_v12 : Ref sig .tc := ⟨.hbm, 227, rfl⟩
abbrev main_call9_v13 : Ref sig .tc := ⟨.hbm, 228, rfl⟩
abbrev main_call9_v14 : Ref sig .tc := ⟨.hbm, 229, rfl⟩
abbrev main_call9_cst : Ref sig .tc := ⟨.hbm, 230, rfl⟩
abbrev main_call9_v15 : Ref sig .tc := ⟨.hbm, 231, rfl⟩
abbrev main_v63 : Ref sig .tc := ⟨.hbm, 232, rfl⟩
abbrev main_call10_c : Ref sig .tc := ⟨.hbm, 233, rfl⟩
abbrev main_call10_v0 : Ref sig .tc := ⟨.hbm, 234, rfl⟩
abbrev main_call10_v1 : Ref sig .tc := ⟨.hbm, 235, rfl⟩
abbrev main_call10_c_0 : Ref sig .tc := ⟨.hbm, 236, rfl⟩
abbrev main_call10_v2 : Ref sig .tc := ⟨.hbm, 237, rfl⟩
abbrev main_call10_v3 : Ref sig .tc := ⟨.hbm, 238, rfl⟩
abbrev main_call10_v4 : Ref sig .tc := ⟨.hbm, 239, rfl⟩
abbrev main_call10_v5 : Ref sig .tc := ⟨.hbm, 240, rfl⟩
abbrev main_call10_c_1 : Ref sig .tc := ⟨.hbm, 241, rfl⟩
abbrev main_call10_c_2 : Ref sig .tc := ⟨.hbm, 242, rfl⟩
abbrev main_call10_v6 : Ref sig .tc := ⟨.hbm, 243, rfl⟩
abbrev main_call10_v7 : Ref sig .tc := ⟨.hbm, 244, rfl⟩
abbrev main_call10_v8 : Ref sig .tc := ⟨.hbm, 245, rfl⟩
abbrev main_call10_v9 : Ref sig .tc := ⟨.hbm, 246, rfl⟩
abbrev main_call10_v10 : Ref sig .tc := ⟨.hbm, 247, rfl⟩
abbrev main_call10_v11 : Ref sig .tc := ⟨.hbm, 248, rfl⟩
abbrev main_call10_c_3 : Ref sig .tc := ⟨.hbm, 249, rfl⟩
abbrev main_call10_v12 : Ref sig .tc := ⟨.hbm, 250, rfl⟩
abbrev main_call10_v13 : Ref sig .tc := ⟨.hbm, 251, rfl⟩
abbrev main_call10_v14 : Ref sig .tc := ⟨.hbm, 252, rfl⟩
abbrev main_call10_cst : Ref sig .tc := ⟨.hbm, 253, rfl⟩
abbrev main_call10_v15 : Ref sig .tc := ⟨.hbm, 254, rfl⟩
abbrev main_v64 : Ref sig .tc := ⟨.hbm, 255, rfl⟩
abbrev main_call11_c : Ref sig .tc := ⟨.hbm, 256, rfl⟩
abbrev main_call11_v0 : Ref sig .tc := ⟨.hbm, 257, rfl⟩
abbrev main_call11_v1 : Ref sig .tc := ⟨.hbm, 258, rfl⟩
abbrev main_call11_c_0 : Ref sig .tc := ⟨.hbm, 259, rfl⟩
abbrev main_call11_v2 : Ref sig .tc := ⟨.hbm, 260, rfl⟩
abbrev main_call11_v3 : Ref sig .tc := ⟨.hbm, 261, rfl⟩
abbrev main_call11_v4 : Ref sig .tc := ⟨.hbm, 262, rfl⟩
abbrev main_call11_v5 : Ref sig .tc := ⟨.hbm, 263, rfl⟩
abbrev main_call11_c_1 : Ref sig .tc := ⟨.hbm, 264, rfl⟩
abbrev main_call11_c_2 : Ref sig .tc := ⟨.hbm, 265, rfl⟩
abbrev main_call11_v6 : Ref sig .tc := ⟨.hbm, 266, rfl⟩
abbrev main_call11_v7 : Ref sig .tc := ⟨.hbm, 267, rfl⟩
abbrev main_call11_v8 : Ref sig .tc := ⟨.hbm, 268, rfl⟩
abbrev main_call11_v9 : Ref sig .tc := ⟨.hbm, 269, rfl⟩
abbrev main_call11_v10 : Ref sig .tc := ⟨.hbm, 270, rfl⟩
abbrev main_call11_v11 : Ref sig .tc := ⟨.hbm, 271, rfl⟩
abbrev main_call11_c_3 : Ref sig .tc := ⟨.hbm, 272, rfl⟩
abbrev main_call11_v12 : Ref sig .tc := ⟨.hbm, 273, rfl⟩
abbrev main_call11_v13 : Ref sig .tc := ⟨.hbm, 274, rfl⟩
abbrev main_call11_v14 : Ref sig .tc := ⟨.hbm, 275, rfl⟩
abbrev main_call11_cst : Ref sig .tc := ⟨.hbm, 276, rfl⟩
abbrev main_call11_v15 : Ref sig .tc := ⟨.hbm, 277, rfl⟩
abbrev main_v65 : Ref sig .tc := ⟨.hbm, 278, rfl⟩
abbrev main_call12_c : Ref sig .tc := ⟨.hbm, 279, rfl⟩
abbrev main_call12_v0 : Ref sig .tc := ⟨.hbm, 280, rfl⟩
abbrev main_call12_v1 : Ref sig .tc := ⟨.hbm, 281, rfl⟩
abbrev main_call12_c_0 : Ref sig .tc := ⟨.hbm, 282, rfl⟩
abbrev main_call12_v2 : Ref sig .tc := ⟨.hbm, 283, rfl⟩
abbrev main_call12_v3 : Ref sig .tc := ⟨.hbm, 284, rfl⟩
abbrev main_call12_v4 : Ref sig .tc := ⟨.hbm, 285, rfl⟩
abbrev main_call12_v5 : Ref sig .tc := ⟨.hbm, 286, rfl⟩
abbrev main_call12_c_1 : Ref sig .tc := ⟨.hbm, 287, rfl⟩
abbrev main_call12_c_2 : Ref sig .tc := ⟨.hbm, 288, rfl⟩
abbrev main_call12_v6 : Ref sig .tc := ⟨.hbm, 289, rfl⟩
abbrev main_call12_v7 : Ref sig .tc := ⟨.hbm, 290, rfl⟩
abbrev main_call12_v8 : Ref sig .tc := ⟨.hbm, 291, rfl⟩
abbrev main_call12_v9 : Ref sig .tc := ⟨.hbm, 292, rfl⟩
abbrev main_call12_v10 : Ref sig .tc := ⟨.hbm, 293, rfl⟩
abbrev main_call12_v11 : Ref sig .tc := ⟨.hbm, 294, rfl⟩
abbrev main_call12_c_3 : Ref sig .tc := ⟨.hbm, 295, rfl⟩
abbrev main_call12_v12 : Ref sig .tc := ⟨.hbm, 296, rfl⟩
abbrev main_call12_v13 : Ref sig .tc := ⟨.hbm, 297, rfl⟩
abbrev main_call12_v14 : Ref sig .tc := ⟨.hbm, 298, rfl⟩
abbrev main_call12_cst : Ref sig .tc := ⟨.hbm, 299, rfl⟩
abbrev main_call12_v15 : Ref sig .tc := ⟨.hbm, 300, rfl⟩
abbrev main_v66 : Ref sig .tc := ⟨.hbm, 301, rfl⟩
abbrev main_v67 : Ref sig .tc := ⟨.hbm, 302, rfl⟩
abbrev main_v68 : Ref sig .tc := ⟨.hbm, 303, rfl⟩
abbrev main_cst_11 : Ref sig .tc := ⟨.hbm, 304, rfl⟩
abbrev main_v69 : Ref sig .tc := ⟨.hbm, 305, rfl⟩
abbrev main_c_12 : Ref sig .tc := ⟨.hbm, 306, rfl⟩
abbrev main_v70 : Ref sig .tc := ⟨.hbm, 307, rfl⟩
abbrev main_v71 : Ref sig .tc := ⟨.hbm, 308, rfl⟩
abbrev main_c_13 : Ref sig .tc := ⟨.hbm, 309, rfl⟩
abbrev main_v72 : Ref sig .tc := ⟨.hbm, 310, rfl⟩
abbrev main_v73 : Ref sig .tc := ⟨.hbm, 311, rfl⟩
abbrev main_v74 : Ref sig .tc := ⟨.hbm, 312, rfl⟩
abbrev main_c_14 : Ref sig .tc := ⟨.hbm, 313, rfl⟩
abbrev main_v75 : Ref sig .tc := ⟨.hbm, 314, rfl⟩
abbrev main_v76 : Ref sig .tc := ⟨.hbm, 315, rfl⟩
abbrev main_c_15 : Ref sig .tc := ⟨.hbm, 316, rfl⟩
abbrev main_v77 : Ref sig .tc := ⟨.hbm, 317, rfl⟩
abbrev main_v78 : Ref sig .tc := ⟨.hbm, 318, rfl⟩
abbrev main_v79 : Ref sig .tc := ⟨.hbm, 319, rfl⟩
abbrev main_v80 : Ref sig .tc := ⟨.hbm, 320, rfl⟩
abbrev main_v81 : Ref sig .tc := ⟨.hbm, 321, rfl⟩
abbrev main_v82 : Ref sig .tc := ⟨.hbm, 322, rfl⟩
abbrev main_v83 : Ref sig .tc := ⟨.hbm, 323, rfl⟩
abbrev main_cst_16 : Ref sig .tc := ⟨.hbm, 324, rfl⟩
abbrev main_v84 : Ref sig .tc := ⟨.hbm, 325, rfl⟩
abbrev main_c_17 : Ref sig .tc := ⟨.hbm, 326, rfl⟩
abbrev main_v85 : Ref sig .tc := ⟨.hbm, 327, rfl⟩
abbrev main_v86 : Ref sig .tc := ⟨.hbm, 328, rfl⟩
abbrev main_c_18 : Ref sig .tc := ⟨.hbm, 329, rfl⟩
abbrev main_v87 : Ref sig .tc := ⟨.hbm, 330, rfl⟩
abbrev main_v88 : Ref sig .tc := ⟨.hbm, 331, rfl⟩
abbrev main_v89 : Ref sig .tc := ⟨.hbm, 332, rfl⟩
abbrev main_c_19 : Ref sig .tc := ⟨.hbm, 333, rfl⟩
abbrev main_v90 : Ref sig .tc := ⟨.hbm, 334, rfl⟩
abbrev main_v91 : Ref sig .tc := ⟨.hbm, 335, rfl⟩
abbrev main_c_20 : Ref sig .tc := ⟨.hbm, 336, rfl⟩
abbrev main_v92 : Ref sig .tc := ⟨.hbm, 337, rfl⟩
abbrev main_v93 : Ref sig .tc := ⟨.hbm, 338, rfl⟩
abbrev main_v94 : Ref sig .tc := ⟨.hbm, 339, rfl⟩
abbrev main_v95 : Ref sig .tc := ⟨.hbm, 340, rfl⟩
abbrev main_v96 : Ref sig .tc := ⟨.hbm, 341, rfl⟩
abbrev main_v97 : Ref sig .tc := ⟨.hbm, 342, rfl⟩
abbrev main_v98 : Ref sig .tc := ⟨.hbm, 343, rfl⟩

abbrev nD : Nat := 1
abbrev τ : Topo := Topo.v7x

variable {F : FTy → Type} [FloatOps F]
-- ==== Proof.Stages.lean ====
/-
  The host mathematics that the kernel and the reference share, as plain functions of arrays: JAX's guarded row
  lookups (`take`), the mean aggregation of a relational graph layer, and the per-token features. Both programs'
  results are stated through these functions, so that what is left to prove is where the two programs differ.
-/
module

public import proofs.«01_k».proof.Proof.Gen.KernelIdeal.Frame
public import Idealize.ShloMosaic.Lib.StableHlo.RunRead

@[expose] public section

set_option maxRecDepth 16384

noncomputable section

namespace Cert.Stages

open Cert.KernelIdeal Cert.KernelIdeal.Gen Idealize.ShloMosaic Idealize.ShloMosaic.TcCoe Idealize.ShloMosaic.StableHlo

variable {F : FTy → Type} [FloatOps F]

/-! ## Guarded lookups -/

/-- The edges' index column: a negative word counts from the end of an axis of `n` rows. -/
def edgeCol (n : BitVec 32) (ix : IVec S40000 32) : IVec S40000x1 32 :=
  broadcastInDim S40000x1 ![0] bcast_S40000_S40000x1_0
    (select (cmpi .slt ix (broadcastInDim S40000 ![] bcast_S_S40000 (constantI S_ 32 0#32)))
      (addi ix (broadcastInDim S40000 ![] bcast_S_S40000 (constantI S_ 32 n))) ix)

/-- Which edges' index words lie between 0 and `last`. -/
def edgeOk (last : BitVec 32) (col : IVec S40000x1 32) : IVec S40000 1 :=
  Host.reduce IntOp.andi
    (andi (cmpi .sge col (broadcastInDim S40000x1 ![] bcast_S_S40000x1 (constantI S_ 32 0#32)))
      (cmpi .sle col (broadcastInDim S40000x1 ![0, 1] bcast_S1x1_S40000x1_0_1
        (broadcastInDim S1x1 ![1] bcast_S1_S1x1_1 (constantI S1 32 last)))))
    (constantI S_ 1 1#1) reducesTo_S40000x1_S40000_d1 h_S_

/-- The tokens' index column. -/
def tokCol (n : BitVec 32) (ix : IVec S20480 32) : IVec S20480x1 32 :=
  broadcastInDim S20480x1 ![0] bcast_S20480_S20480x1_0
    (select (cmpi .slt ix (broadcastInDim S20480 ![] bcast_S_S20480 (constantI S_ 32 0#32)))
      (addi ix (broadcastInDim S20480 ![] bcast_S_S20480 (constantI S_ 32 n))) ix)

/-- Which tokens' index words lie between 0 and `last`. -/
def tokOk (last : BitVec 32) (col : IVec S20480x1 32) : IVec S20480 1 :=
  Host.reduce IntOp.andi
    (andi (cmpi .sge col (broadcastInDim S20480x1 ![] bcast_S_S20480x1 (constantI S_ 32 0#32)))
      (cmpi .sle col (broadcastInDim S20480x1 ![0, 1] bcast_S1x1_S20480x1_0_1
        (broadcastInDim S1x1 ![1] bcast_S1_S1x1_1 (constantI S1 32 last)))))
    (constantI S_ 1 1#1) reducesTo_S20480x1_S20480_d1 h_S_

/-- The batch rows' index column. -/
def rowCol (n : BitVec 32) (ix : IVec S2048 32) : IVec S2048x1 32 :=
  broadcastInDim S2048x1 ![0] bcast_S2048_S2048x1_0
    (select (cmpi .slt ix (broadcastInDim S2048 ![] bcast_S_S2048 (constantI S_ 32 0#32)))
      (addi ix (broadcastInDim S2048 ![] bcast_S_S2048 (constantI S_ 32 n))) ix)

/-- Which batch rows' index words lie between 0 and `last`. -/
def rowOk (last : BitVec 32) (col : IVec S2048x1 32) : IVec S2048 1 :=
  Host.reduce IntOp.andi
    (andi (cmpi .sge col (broadcastInDim S2048x1 ![] bcast_S_S2048x1 (constantI S_ 32 0#32)))
      (cmpi .sle col (broadcastInDim S2048x1 ![0, 1] bcast_S1x1_S2048x1_0_1
        (broadcastInDim S1x1 ![1] bcast_S1_S1x1_1 (constantI S1 32 last)))))
    (constantI S_ 1 1#1) reducesTo_S2048x1_S2048_d1 h_S_

/-- The basis coefficients of each edge's relation. -/
def compAt (w : FVec F S460x16 .f32) (ix : IVec S40000 32) : FVec F S40000x16 .f32 :=
  select (broadcastInDim S40000x16 ![0] bcast_S40000_S40000x16_0 (edgeOk 459#32 (edgeCol 460#32 ix)))
    (Host.gather gather_S460x16_S40000x1_S40000x16_1_0_n_n_0_1_116 w (edgeCol 460#32 ix))
    (broadcastInDim S40000x16 ![] bcast_S_S40000x16 (constant S_ .f32 0x7FC00000#32))

/-- Each edge's source rows, one per basis matrix. -/
def srcAt (xb : FVec F S10000x16x128 .f32) (ix : IVec S40000 32) : FVec F S40000x16x128 .f32 :=
  select (broadcastInDim S40000x16x128 ![0] bcast_S40000_S40000x16x128_0 (edgeOk 9999#32 (edgeCol 10000#32 ix)))
    (Host.gather gather_S10000x16x128_S40000x1_S40000x16x128_12_0_n_n_0_1_116128 xb (edgeCol 10000#32 ix))
    (broadcastInDim S40000x16x128 ![] bcast_S_S40000x16x128 (constant S_ .f32 0x7FC00000#32))

/-- The node rows of the tokens. -/
def nodeAt (h : FVec F S10000x128 .f32) (ix : IVec S20480 32) : FVec F S20480x128 .f32 :=
  select (broadcastInDim S20480x128 ![0] bcast_S20480_S20480x128_0 (tokOk 9999#32 (tokCol 10000#32 ix)))
    (Host.gather gather_S10000x128_S20480x1_S20480x128_1_0_n_n_0_1_1128 h (tokCol 10000#32 ix))
    (broadcastInDim S20480x128 ![] bcast_S_S20480x128 (constant S_ .f32 0x7FC00000#32))

/-- The entity rows of the batch. -/
def entAt (x : FVec F S10000x128 .f32) (ix : IVec S2048 32) : FVec F S2048x128 .f32 :=
  select (broadcastInDim S2048x128 ![0] bcast_S2048_S2048x128_0 (rowOk 9999#32 (rowCol 10000#32 ix)))
    (Host.gather gather_S10000x128_S2048x1_S2048x128_1_0_n_n_0_1_1128 x (rowCol 10000#32 ix))
    (broadcastInDim S2048x128 ![] bcast_S_S2048x128 (constant S_ .f32 0x7FC00000#32))

/-- The relation rows of the batch. -/
def relAt (x : FVec F S460x128 .f32) (ix : IVec S2048 32) : FVec F S2048x128 .f32 :=
  select (broadcastInDim S2048x128 ![0] bcast_S2048_S2048x128_0 (rowOk 459#32 (rowCol 460#32 ix)))
    (Host.gather gather_S460x128_S2048x1_S2048x128_1_0_n_n_0_1_1128 x (rowCol 460#32 ix))
    (broadcastInDim S2048x128 ![] bcast_S_S2048x128 (constant S_ .f32 0x7FC00000#32))

/-- Each token's batch row. -/
def tokAt (x : FVec F S2048x128 .f32) (ix : IVec S20480 32) : FVec F S20480x128 .f32 :=
  select (broadcastInDim S20480x128 ![0] bcast_S20480_S20480x128_0 (tokOk 2047#32 (tokCol 2048#32 ix)))
    (Host.gather gather_S2048x128_S20480x1_S20480x128_1_0_n_n_0_1_1128 x (tokCol 2048#32 ix))
    (broadcastInDim S20480x128 ![] bcast_S_S20480x128 (constant S_ .f32 0x7FC00000#32))

/-! ## One layer's aggregation -/

/-- The edges' first ends. -/
def srcOf (e : IVec S2x40000 32) : IVec S40000 32 :=
  shapeCast S40000 (extractStridedSlice S1x40000 ![0, 0] e slices_S2x40000_S1x40000_0_0) shapeCasts_S1x40000_S40000

/-- The edges' second ends. -/
def dstOf (e : IVec S2x40000 32) : IVec S40000 32 :=
  shapeCast S40000 (extractStridedSlice S1x40000 ![1, 0] e slices_S2x40000_S1x40000_1_0) shapeCasts_S1x40000_S40000

/-- The edges' relations, shifted for the reversed direction. -/
def relOf (t : IVec S40000 32) (rev : IVec S_ 32) : IVec S40000 32 :=
  addi t (broadcastInDim S40000 ![] bcast_S_S40000 (muli rev (constantI S_ 32 230#32)))

/-- The messages of the edges, `∑_b comp[e, b] * xb[src e, b, :]`, averaged over each node's incoming edges. -/
def meanMsg (xb : FVec F S10000x16x128 .f32) (w : FVec F S460x16 .f32) (et src dst : IVec S40000 32) :
    FVec F S10000x128 .f32 :=
  Host.divf
    (Host.scatterAdd scatter_S10000x128_S40000x1_S40000x128_1_0_0_1
      (broadcastInDim S10000x128 ![] bcast_S_S10000x128 (constant S_ .f32 0x00000000#32))
      (broadcastInDim S40000x1 ![0] bcast_S40000_S40000x1_0 dst)
      (Host.dotGeneral dot_S40000x16_S40000x16x128_S40000x128_1_1_n_2_0_0 none (compAt w et) (srcAt xb src)))
    (broadcastInDim S10000x128 ![0, 1] bcast_S10000x1_S10000x128_0_1
      (broadcastInDim S10000x1 ![0] bcast_S10000_S10000x1_0
        (maximumf (broadcastInDim S10000 ![] bcast_S_S10000 (id (constant S_ .f32 0x3F800000#32)))
          (Host.scatterAdd scatter_S10000_S40000x1_S40000_n_0_0_1
            (broadcastInDim S10000 ![] bcast_S_S10000 (constant S_ .f32 0x00000000#32))
            (broadcastInDim S40000x1 ![0] bcast_S40000_S40000x1_0 dst)
            (broadcastInDim S40000 ![] bcast_S_S40000 (constant S_ .f32 0x3F800000#32))))))

/-- The rectifier. -/
def reluOf (x : FVec F S10000x128 .f32) : FVec F S10000x128 .f32 :=
  maximumf x (broadcastInDim S10000x128 ![] bcast_S_S10000x128 (constant S_ .f32 0x00000000#32))

/-- The basis matrices side by side: column `b * 128 + d` of row `h` is `w[b, h, d]`. -/
def sideBySide (w : FVec F S16x128x128 .f32) : FVec F S128x2048 .f32 :=
  shapeCast S128x2048 (transpose S128x16x128 [1, 0, 2] w transposes_S16x128x128_S128x16x128_1_0_2)
    shapeCasts_S128x16x128_S128x2048

/-- A row of 2048 columns as 16 rows of 128. -/
def splitCols (x : FVec F S10000x2048 .f32) : FVec F S10000x16x128 .f32 :=
  shapeCast S10000x16x128 x shapeCasts_S10000x2048_S10000x16x128

/-! ## The features of the tokens -/

/-- The batch row of each token, as the kernel computes it: the token's number divided by 10, rounded down. -/
def tokRow : IVec S20480 32 :=
  select
    (andi
      (cmpi .ne (signi (iotaInDim S20480 32 0))
        (broadcastInDim S20480 ![] bcast_S_S20480 (signi (id (constantI S_ 32 10#32)))))
      (cmpi .ne (Host.remsi (iotaInDim S20480 32 0) (broadcastInDim S20480 ![] bcast_S_S20480 (id (constantI S_ 32 10#32))))
        (broadcastInDim S20480 ![] bcast_S_S20480 (constantI S_ 32 0#32))))
    (subi (Host.divsi (iotaInDim S20480 32 0) (broadcastInDim S20480 ![] bcast_S_S20480 (id (constantI S_ 32 10#32))))
      (broadcastInDim S20480 ![] bcast_S_S20480 (constantI S_ 32 1#32)))
    (Host.divsi (iotaInDim S20480 32 0) (broadcastInDim S20480 ![] bcast_S_S20480 (id (constantI S_ 32 10#32))))

/-- The wide features: node, entity, relation and extra columns side by side. -/
def feat4 (a b r x : FVec F S20480x128 .f32) : FVec F S20480x512 .f32 :=
  concatenate S20480x512 1 [⟨S20480x128, a⟩, ⟨S20480x128, b⟩, ⟨S20480x128, r⟩, ⟨S20480x128, x⟩]
    concatenates_S20480x128_S20480x128_S20480x128_S20480x128_S20480x512_d1

/-- The narrow features: node, entity and extra columns side by side. -/
def feat3 (a b x : FVec F S20480x128 .f32) : FVec F S20480x384 .f32 :=
  concatenate S20480x384 1 [⟨S20480x128, a⟩, ⟨S20480x128, b⟩, ⟨S20480x128, x⟩]
    concatenates_S20480x128_S20480x128_S20480x128_S20480x384_d1

end Cert.Stages

end
-- ==== Proof.HostReads.lean ====
/-
  What the kernel program's stretches of host operations leave in the buffers read later, each as a function
  of Stages.lean over the contents before the stretch.
-/
module

public import proofs.«01_k».proof.Proof.Stages

@[expose] public section

set_option maxRecDepth 16384
set_option maxHeartbeats 2000000

noncomputable section

namespace Cert.Stages

open Cert.KernelIdeal Cert.KernelIdeal.Gen Idealize.ShloMosaic Idealize.ShloMosaic.TcCoe Idealize.ShloMosaic.StableHlo

variable {F : FTy → Type} [FloatOps F] (V : Valuation τ sig (Elt F))

/-- The first stretch leaves the edges' first ends. -/
theorem read_src : after hostOps0 V (Proc.devRef .tc main_v1) = srcOf (V (Proc.devRef .tc main_arg9)) := by
  after_reads_simp
  rfl

/-- The first stretch leaves the edges' second ends. -/
theorem read_dst : after hostOps0 V (Proc.devRef .tc main_v3) = dstOf (V (Proc.devRef .tc main_arg9)) := by
  after_reads_simp
  rfl

/-- The first stretch leaves the edges' relations. -/
theorem read_rel : after hostOps0 V (Proc.devRef .tc main_v6)
    = relOf (V (Proc.devRef .tc main_arg10)) (V (Proc.devRef .tc main_arg15)) := by
  after_reads_simp
  rfl

/-- The first stretch leaves the first layer's basis matrices side by side. -/
theorem read_side1 : after hostOps0 V (Proc.devRef .tc main_v8) = sideBySide (V (Proc.devRef .tc main_arg3)) := by
  after_reads_simp
  rfl

/-- The first layer's coefficients. -/
theorem read_comp1 : after hostOps1_1 V (Proc.devRef .tc main_v11)
    = compAt (V (Proc.devRef .tc main_arg4)) (V (Proc.devRef .tc main_v6)) := by
  after_reads_simp
  simp only [TRef.toBuf, TRef.ofBuf, cast_eq]
  rfl

/-- The first layer's source rows. -/
theorem read_rows1 : after hostOps1_2 V (Proc.devRef .tc main_v12)
    = srcAt (V (Proc.devRef .tc main_v10)) (V (Proc.devRef .tc main_v1)) := by
  after_reads_simp
  simp only [TRef.toBuf, TRef.ofBuf, cast_eq]
  rfl

/-- The stretches between the first and the second product leave the first layer's mean messages. -/
theorem read_mean1 :
    after hostOps1_5 (after hostOps1_4 (after hostOps1_3 (after hostOps1_2 (after hostOps1_1 (after hostOps1 V)))))
      (Proc.devRef .tc main_v24)
    = meanMsg (splitCols (V (Proc.devRef .tc main_v9))) (V (Proc.devRef .tc main_arg4)) (V (Proc.devRef .tc main_v6))
        (V (Proc.devRef .tc main_v1)) (V (Proc.devRef .tc main_v3)) := by
  after_reads_simp
  simp only [TRef.toBuf, TRef.ofBuf, cast_eq]
  rfl

/-- The stretches after the second product leave the first layer's output. -/
theorem read_layer1 : after hostOps2_2 (after hostOps2_1 (after hostOps2 V)) (Proc.devRef .tc main_v27)
    = reluOf (addf (V (Proc.devRef .tc main_v24)) (V (Proc.devRef .tc main_v25))) := by
  after_reads_simp
  simp only [TRef.toBuf, TRef.ofBuf, cast_eq]
  rfl

/-- They also leave the second layer's basis matrices side by side. -/
theorem read_side2 : after hostOps2_2 (after hostOps2_1 (after hostOps2 V)) (Proc.devRef .tc main_v29)
    = sideBySide (V (Proc.devRef .tc main_arg6)) := by
  after_reads_simp
  rfl

/-- The stretches between the third and the fourth product leave the second layer's mean messages. -/
theorem read_mean2 :
    after hostOps3_5 (after hostOps3_4 (after hostOps3_3 (after hostOps3_2 (after hostOps3_1 (after hostOps3 V)))))
      (Proc.devRef .tc main_v45)
    = meanMsg (splitCols (V (Proc.devRef .tc main_v30))) (V (Proc.devRef .tc main_arg7)) (V (Proc.devRef .tc main_v6))
        (V (Proc.devRef .tc main_v1)) (V (Proc.devRef .tc main_v3)) := by
  after_reads_simp
  simp only [TRef.toBuf, TRef.ofBuf, cast_eq]
  rfl

/-- The node rows of the tokens. -/
theorem read_node : after hostOps4_1 (after hostOps4 V) (Proc.devRef .tc main_v48)
    = nodeAt (addf (V (Proc.devRef .tc main_v45)) (V (Proc.devRef .tc main_v46))) (V (Proc.devRef .tc main_arg11)) := by
  after_reads_simp
  simp only [TRef.toBuf, TRef.ofBuf, cast_eq]
  rfl

/-- The batch row of each token. -/
theorem read_tokRow : after hostOps4_3 (after hostOps4_2 V) (Proc.devRef .tc main_v50) = tokRow := by
  after_reads_simp
  simp only [TRef.toBuf, TRef.ofBuf, cast_eq]
  rfl

/-- The entity rows of the tokens. -/
theorem read_ent : after hostOps4_5 (after hostOps4_4 V) (Proc.devRef .tc main_v52)
    = tokAt (entAt (V (Proc.devRef .tc main_arg0)) (V (Proc.devRef .tc main_arg13))) (V (Proc.devRef .tc main_v50)) := by
  after_reads_simp
  simp only [TRef.toBuf, TRef.ofBuf, cast_eq]
  rfl

/-- The relation rows of the tokens. -/
theorem read_relRows : after hostOps4_7 (after hostOps4_6 V) (Proc.devRef .tc main_v54)
    = tokAt (relAt (V (Proc.devRef .tc main_arg1)) (V (Proc.devRef .tc main_arg14))) (V (Proc.devRef .tc main_v50)) := by
  after_reads_simp
  simp only [TRef.toBuf, TRef.ofBuf, cast_eq]
  rfl

/-- The first result: the wide features, ten tokens to a batch row. -/
theorem read_wide : after hostOps4_8 V (Proc.devRef .tc main_v57)
    = shapeCast S2048x10x512 (feat4 (V (Proc.devRef .tc main_v48)) (V (Proc.devRef .tc main_v52))
        (V (Proc.devRef .tc main_v54)) (V (Proc.devRef .tc main_arg2))) shapeCasts_S20480x512_S2048x10x512 := by
  after_reads_simp
  rfl

/-- The second result: the narrow features, ten tokens to a batch row. -/
theorem read_narrow : after hostOps4_8 V (Proc.devRef .tc main_v58)
    = shapeCast S2048x10x384 (feat3 (V (Proc.devRef .tc main_v48)) (V (Proc.devRef .tc main_v52))
        (V (Proc.devRef .tc main_arg2))) shapeCasts_S20480x384_S2048x10x384 := by
  after_reads_simp
  rfl

end Cert.Stages

end
-- ==== Proof.Regions.lean ====
/-
  What each of the kernel's four tiled matrix products leaves in its output array, over the exact numbers: the
  textbook product of its two whole operands. Each grid point computes one block of 1000 rows.
-/
module

public import proofs.«01_k».proof.Proof.HostReads
public import Idealize.ShloMosaic.Lib.Pipeline.ValueKit

@[expose] public section

set_option maxRecDepth 16384

noncomputable section

namespace Cert.Stages

open Cert.KernelIdeal Cert.KernelIdeal.Gen Idealize.ShloMosaic Idealize.ShloMosaic.TcCoe

/-- The product of the 10000 rows with a matrix of 2048 columns. -/
def prodWide (x : FVec Ideal S10000x128 .f32) (w : FVec Ideal S128x2048 .f32) : FVec Ideal S10000x2048 .f32 :=
  fun i => ∑ k : Fin 128, x (ix2 (i 0) k) * w (ix2 k (i 1))

/-- The product of the 10000 rows with a matrix of 128 columns. -/
def prodSquare (x : FVec Ideal S10000x128 .f32) (w : FVec Ideal S128x128 .f32) : FVec Ideal S10000x128 .f32 :=
  fun i => ∑ k : Fin 128, x (ix2 (i 0) k) * w (ix2 k (i 1))

variable (V : (c : Dev nD) → (b : Ref sig .tc) → Buf (Elt Ideal) ((c : Thread nD τ).loc b))

/-- Where the first region's blocks sit. -/
theorem index0 : ∀ t : Fin grid0.N,
    win0_0.index t = ![t.val, 0] ∧ win0_1.index t = ![0, 0] ∧ win0_2.index t = ![t.val, 0] := by
  decide +kernel

/-- The first region leaves the product of its two operands in its output array. -/
theorem region0 (c : Dev nD) : (dat0 V c).arrAt 2 cfg0.N = prodWide (V c main_arg0) (V c main_v8) := by
  refine (dat0 V c).arrAt_eq_of_covers 2 _ (by decide +kernel) fun t hf y => ?_
  blk_simp
  rw [after0_2]
  frame_out
  unfold k0_pay1 prodWide
  pointwise
  blk_point [iblk0, index0 t]

/-- Where the second region's blocks sit. -/
theorem index1 : ∀ t : Fin grid1.N,
    win1_0.index t = ![t.val, 0] ∧ win1_1.index t = ![0, 0] ∧ win1_2.index t = ![t.val, 0] := by
  decide +kernel

/-- The second region leaves the product of its two operands in its output array. -/
theorem region1 (c : Dev nD) : (dat1 V c).arrAt 2 cfg1.N = prodSquare (V c main_arg0) (V c main_arg5) := by
  refine (dat1 V c).arrAt_eq_of_covers 2 _ (by decide +kernel) fun t hf y => ?_
  blk_simp
  rw [after1_2]
  frame_out
  unfold k1_pay1 prodSquare
  pointwise
  blk_point [iblk1, index1 t]

/-- Where the third region's blocks sit. -/
theorem index2 : ∀ t : Fin grid2.N,
    win2_0.index t = ![t.val, 0] ∧ win2_1.index t = ![0, 0] ∧ win2_2.index t = ![t.val, 0] := by
  decide +kernel

/-- The third region leaves the product of its two operands in its output array. -/
theorem region2 (c : Dev nD) : (dat2 V c).arrAt 2 cfg2.N = prodWide (V c main_v27) (V c main_v29) := by
  refine (dat2 V c).arrAt_eq_of_covers 2 _ (by decide +kernel) fun t hf y => ?_
  blk_simp
  rw [after2_2]
  frame_out
  unfold k2_pay1 prodWide
  pointwise
  blk_point [iblk2, index2 t]

/-- Where the fourth region's blocks sit. -/
theorem index3 : ∀ t : Fin grid3.N,
    win3_0.index t = ![t.val, 0] ∧ win3_1.index t = ![0, 0] ∧ win3_2.index t = ![t.val, 0] := by
  decide +kernel

/-- The fourth region leaves the product of its two operands in its output array. -/
theorem region3 (c : Dev nD) : (dat3 V c).arrAt 2 cfg3.N = prodSquare (V c main_v27) (V c main_arg8) := by
  refine (dat3 V c).arrAt_eq_of_covers 2 _ (by decide +kernel) fun t hf y => ?_
  blk_simp
  rw [after3_2]
  frame_out
  unfold k3_pay1 prodSquare
  pointwise
  blk_point [iblk3, index3 t]

end Cert.Stages

end
-- ==== Proof.RefForm.lean ====
/-
  The reference's two products through the kernel's: the einsum over the basis matrices is the product with the
  matrices side by side, its columns split again; the self-loop product is the same sum. Then the reference's named
  intermediate arrays through Stages.lean.
-/
module

public import proofs.«01_k».proof.Proof.Regions
public import proofs.«01_k».proof.Proof.Gen.ReferenceIdeal.Run

@[expose] public section

set_option maxRecDepth 16384

noncomputable section

namespace Cert.Stages

open Cert.KernelIdeal Cert.KernelIdeal.Gen Idealize.ShloMosaic Idealize.ShloMosaic.TcCoe Idealize.ShloMosaic.StableHlo

/-- The reference's `einsum('nh,bhd->nbd', x, w)`. -/
abbrev einsumOf (x : FVec Ideal S10000x128 .f32) (w : FVec Ideal S16x128x128 .f32) : FVec Ideal S10000x16x128 .f32 :=
  Host.dotGeneral Cert.ReferenceIdeal.dot_S10000x128_S16x128x128_S10000x16x128_1_1_0_02_n_n none x w

/-- The reference's `x @ w`. -/
abbrev matOf (x : FVec Ideal S10000x128 .f32) (w : FVec Ideal S128x128 .f32) : FVec Ideal S10000x128 .f32 :=
  Host.dotGeneral Cert.ReferenceIdeal.dot_S10000x128_S128x128_S10000x128_1_0_0_1_n_n none x w

/-- The self-loop product is the reference's. -/
theorem prodSquare_eq (x : FVec Ideal S10000x128 .f32) (w : FVec Ideal S128x128 .f32) : prodSquare x w = matOf x w := by
  funext i
  unfold prodSquare matOf
  pointwise

/-- The product with the basis matrices side by side, split into 16 rows of 128, is the einsum. -/
theorem splitCols_prodWide (x : FVec Ideal S10000x128 .f32) (w : FVec Ideal S16x128x128 .f32) :
    splitCols (prodWide x (sideBySide w)) = einsumOf x w := by
  funext i
  unfold splitCols prodWide sideBySide einsumOf
  pointwise
  refine Finset.sum_congr rfl fun k _ => ?_
  have h2 : (i 2).val < 128 := (i 2).isLt
  have e1 : (⟨((i 1).val * 128 + (i 2).val) / 128, by have := (i 1).isLt; change _ < 16 at this; omega⟩ : Fin 16) = i 1 :=
    Fin.ext (by show ((i 1).val * 128 + (i 2).val) / 128 = (i 1).val; omega)
  have e2 : (⟨((i 1).val * 128 + (i 2).val) % 128, by omega⟩ : Fin 128) = i 2 :=
    Fin.ext (by show ((i 1).val * 128 + (i 2).val) % 128 = (i 2).val; omega)
  rw [e1, e2]

/-! ## The two layers -/

/-- The first layer: mean messages plus the self-loop, rectified. -/
def layer1 (x : FVec Ideal S10000x128 .f32) (w : FVec Ideal S16x128x128 .f32) (p : FVec Ideal S460x16 .f32)
    (l : FVec Ideal S128x128 .f32) (e : IVec S2x40000 32) (t : IVec S40000 32) (r : IVec S_ 32) :
    FVec Ideal S10000x128 .f32 :=
  reluOf (addf (meanMsg (einsumOf x w) p (relOf t r) (srcOf e) (dstOf e)) (matOf x l))

/-- The second layer: mean messages plus the self-loop. -/
def layer2 (x : FVec Ideal S10000x128 .f32) (w : FVec Ideal S16x128x128 .f32) (p : FVec Ideal S460x16 .f32)
    (l : FVec Ideal S128x128 .f32) (e : IVec S2x40000 32) (t : IVec S40000 32) (r : IVec S_ 32) :
    FVec Ideal S10000x128 .f32 :=
  addf (meanMsg (einsumOf x w) p (relOf t r) (srcOf e) (dstOf e)) (matOf x l)

/-! ## The reference's named arrays -/

section Reference

open Cert.ReferenceIdeal.Value

variable (V : Valuation Cert.ReferenceIdeal.τ Cert.ReferenceIdeal.sig (Elt Ideal))

/-- The reference's first layer. -/
theorem ref_layer1 : res_main_v24 V
    = layer1 (V (Proc.devRef .tc Cert.ReferenceIdeal.main_arg0)) (V (Proc.devRef .tc Cert.ReferenceIdeal.main_arg3))
        (V (Proc.devRef .tc Cert.ReferenceIdeal.main_arg4)) (V (Proc.devRef .tc Cert.ReferenceIdeal.main_arg5))
        (V (Proc.devRef .tc Cert.ReferenceIdeal.main_arg9)) (V (Proc.devRef .tc Cert.ReferenceIdeal.main_arg10))
        (V (Proc.devRef .tc Cert.ReferenceIdeal.main_arg15)) := by
  unfold res_main_v24
  rfl

/-- The reference's node rows of the tokens. -/
theorem ref_node : res_main_v42 V
    = nodeAt (layer2 (res_main_v24 V) (V (Proc.devRef .tc Cert.ReferenceIdeal.main_arg6))
        (V (Proc.devRef .tc Cert.ReferenceIdeal.main_arg7)) (V (Proc.devRef .tc Cert.ReferenceIdeal.main_arg8))
        (V (Proc.devRef .tc Cert.ReferenceIdeal.main_arg9)) (V (Proc.devRef .tc Cert.ReferenceIdeal.main_arg10))
        (V (Proc.devRef .tc Cert.ReferenceIdeal.main_arg15))) (V (Proc.devRef .tc Cert.ReferenceIdeal.main_arg11)) := by
  unfold res_main_v42
  rfl

/-- The reference's entity rows of the tokens. -/
theorem ref_ent : res_main_v64 V
    = tokAt (F := Ideal) (entAt (V (Proc.devRef .tc Cert.ReferenceIdeal.main_arg0)) (V (Proc.devRef .tc Cert.ReferenceIdeal.main_arg13)))
        (res_main_v54 V) := by
  unfold res_main_v64
  rfl

end Reference

end Cert.Stages

end
-- ==== Proof.KernelValue.lean ====
/-
  The kernel program's two results, over the exact numbers, as functions of its arguments: the contents at each
  segment boundary read back to the launch.
-/
module

public import proofs.«01_k».proof.Proof.RefForm

@[expose] public section

set_option maxRecDepth 16384

noncomputable section

namespace Cert.Stages

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

/-- An argument's contents at launch. -/
abbrev arg (r : Ref sig .tc) : Buf (Elt Ideal) ((c : Thread nD τ).loc r) := m ((c : Thread nD τ).loc r)

/-- The first product's operand and output: the einsum of the entity rows. -/
theorem at_v9 : splitCols (W2 m ρ c (Proc.devRef .tc main_v9)) = einsumOf (arg m c main_arg0) (arg m c main_arg3) := by
  have h : W2 m ρ c (Proc.devRef .tc main_v9) = prodWide (W1 m ρ c (Proc.devRef .tc main_arg0)) (W1 m ρ c (Proc.devRef .tc main_v8)) :=
    (W2_arr m ρ c 2).trans (region0 (V1 m ρ) c)
  rw [h, W1_args m ρ c main_arg0 (by decide)]
  refine Eq.trans ?_ (splitCols_prodWide _ _)
  exact congrArg (fun w => splitCols (prodWide (arg m c main_arg0) w)) (read_side1 (W0 m ρ c))

/-- The edges' first ends, as the first layer finds them. -/
theorem at_src2 : W2 m ρ c (Proc.devRef .tc main_v1) = srcOf (arg m c main_arg9) :=
  (W2_of m ρ c main_v1 (by decide)).trans (read_src (W0 m ρ c))

/-- The edges' second ends, as the first layer finds them. -/
theorem at_dst2 : W2 m ρ c (Proc.devRef .tc main_v3) = dstOf (arg m c main_arg9) :=
  (W2_of m ρ c main_v3 (by decide)).trans (read_dst (W0 m ρ c))

/-- The edges' relations, as the first layer finds them. -/
theorem at_rel2 : W2 m ρ c (Proc.devRef .tc main_v6) = relOf (arg m c main_arg10) (arg m c main_arg15) :=
  (W2_of m ρ c main_v6 (by decide)).trans (read_rel (W0 m ρ c))

/-- A buffer nothing between the first and the third product writes keeps its contents. -/
theorem keep13 (r : Ref sig .tc) (h3 : r ∉ hostOps1_W) (h4 : r ∉ hostOps1_1_W) (h5 : r ∉ hostOps1_2_W)
    (h6 : r ∉ hostOps1_3_W) (h7 : r ∉ hostOps1_4_W) (h8 : r ∉ hostOps1_5_W)
    (h9 : ∀ w : Fin cfg1.W, Pipeline.arrRef spec1 w = r → (cfg1.win w).isOut = false) (h10 : r ∉ hostOps2_W)
    (h11 : r ∉ hostOps2_1_W) (h12 : r ∉ hostOps2_2_W)
    (h13 : ∀ w : Fin cfg2.W, Pipeline.arrRef spec2 w = r → (cfg2.win w).isOut = false) :
    W13 m ρ c (Proc.devRef .tc r) = W2 m ρ c (Proc.devRef .tc r) := by
  rw [W13_of m ρ c r h13, W12_of m ρ c r h12, W11_of m ρ c r h11, W10_of m ρ c r h10, W9_of m ρ c r h9,
    W8_of m ρ c r h8, W7_of m ρ c r h7, W6_of m ρ c r h6, W5_of m ρ c r h5, W4_of m ρ c r h4, W3_of m ρ c r h3]

/-- The first layer's mean messages. -/
theorem at_v24 : W9 m ρ c (Proc.devRef .tc main_v24)
    = meanMsg (einsumOf (arg m c main_arg0) (arg m c main_arg3)) (arg m c main_arg4)
        (relOf (arg m c main_arg10) (arg m c main_arg15)) (srcOf (arg m c main_arg9)) (dstOf (arg m c main_arg9)) := by
  rw [W9_of m ρ c main_v24 (by decide)]
  refine (read_mean1 (W2 m ρ c)).trans ?_
  rw [at_v9, at_src2, at_dst2, at_rel2, W2_args m ρ c main_arg4 (by decide)]

/-- The first layer's self-loop product. -/
theorem at_v25 : W9 m ρ c (Proc.devRef .tc main_v25) = matOf (arg m c main_arg0) (arg m c main_arg5) := by
  have h : W9 m ρ c (Proc.devRef .tc main_v25)
      = prodSquare (W8 m ρ c (Proc.devRef .tc main_arg0)) (W8 m ρ c (Proc.devRef .tc main_arg5)) :=
    (W9_arr m ρ c 2).trans (region1 (V8 m ρ) c)
  rw [h, W8_args m ρ c main_arg0 (by decide), W8_args m ρ c main_arg5 (by decide), prodSquare_eq]

/-- The first layer's output in terms of the arguments. -/
abbrev hid (m : (ℓ : Loc nD τ sig) → Buf (Elt Ideal) ℓ) (c : Dev nD) : FVec Ideal S10000x128 .f32 :=
  layer1 (arg m c main_arg0) (arg m c main_arg3) (arg m c main_arg4) (arg m c main_arg5) (arg m c main_arg9)
    (arg m c main_arg10) (arg m c main_arg15)

/-- The first layer's output. -/
theorem at_v27 : W12 m ρ c (Proc.devRef .tc main_v27) = hid m c := by
  refine (read_layer1 (W9 m ρ c)).trans ?_
  rw [at_v24, at_v25]
  rfl

/-- The third product's output: the einsum of the first layer's output. -/
theorem at_v30 : splitCols (W13 m ρ c (Proc.devRef .tc main_v30)) = einsumOf (hid m c) (arg m c main_arg6) := by
  have h : W13 m ρ c (Proc.devRef .tc main_v30)
      = prodWide (W12 m ρ c (Proc.devRef .tc main_v27)) (W12 m ρ c (Proc.devRef .tc main_v29)) :=
    (W13_arr m ρ c 2).trans (region2 (V12 m ρ) c)
  have hw : W12 m ρ c (Proc.devRef .tc main_v29) = sideBySide (F := Ideal) (arg m c main_arg6) := by
    refine (read_side2 (W9 m ρ c)).trans ?_
    rw [W9_args m ρ c main_arg6 (by decide)]
  rw [h, at_v27, hw, splitCols_prodWide]

/-- The second layer's mean messages. -/
theorem at_v45 : W20 m ρ c (Proc.devRef .tc main_v45)
    = meanMsg (einsumOf (hid m c) (arg m c main_arg6)) (arg m c main_arg7)
        (relOf (arg m c main_arg10) (arg m c main_arg15)) (srcOf (arg m c main_arg9)) (dstOf (arg m c main_arg9)) := by
  rw [W20_of m ρ c main_v45 (by decide)]
  refine (read_mean2 (W13 m ρ c)).trans ?_
  rw [at_v30, W13_args m ρ c main_arg7 (by decide),
    keep13 m ρ c main_v1 (by decide) (by decide) (by decide) (by decide) (by decide) (by decide) (by decide) (by decide) (by decide) (by decide) (by decide),
    keep13 m ρ c main_v3 (by decide) (by decide) (by decide) (by decide) (by decide) (by decide) (by decide) (by decide) (by decide) (by decide) (by decide),
    keep13 m ρ c main_v6 (by decide) (by decide) (by decide) (by decide) (by decide) (by decide) (by decide) (by decide) (by decide) (by decide) (by decide),
    at_src2, at_dst2, at_rel2]

/-- The second layer's self-loop product. -/
theorem at_v46 : W20 m ρ c (Proc.devRef .tc main_v46) = matOf (hid m c) (arg m c main_arg8) := by
  have h : W20 m ρ c (Proc.devRef .tc main_v46)
      = prodSquare (W19 m ρ c (Proc.devRef .tc main_v27)) (W19 m ρ c (Proc.devRef .tc main_arg8)) :=
    (W20_arr m ρ c 2).trans (region3 (V19 m ρ) c)
  have hk : W19 m ρ c (Proc.devRef .tc main_v27) = W12 m ρ c (Proc.devRef .tc main_v27) := by
    rw [W19_of m ρ c main_v27 (by decide), W18_of m ρ c main_v27 (by decide), W17_of m ρ c main_v27 (by decide),
      W16_of m ρ c main_v27 (by decide), W15_of m ρ c main_v27 (by decide), W14_of m ρ c main_v27 (by decide),
      W13_of m ρ c main_v27 (by decide)]
  rw [h, hk, at_v27, W19_args m ρ c main_arg8 (by decide), prodSquare_eq]

/-- The node rows of the tokens in terms of the arguments. -/
abbrev nodes (m : (ℓ : Loc nD τ sig) → Buf (Elt Ideal) ℓ) (c : Dev nD) : FVec Ideal S20480x128 .f32 :=
  nodeAt (layer2 (hid m c) (arg m c main_arg6) (arg m c main_arg7) (arg m c main_arg8) (arg m c main_arg9)
    (arg m c main_arg10) (arg m c main_arg15)) (arg m c main_arg11)

/-- The node rows of the tokens. -/
theorem at_v48 : W28 m ρ c (Proc.devRef .tc main_v48) = nodes m c := by
  rw [W28_of m ρ c main_v48 (by decide), W27_of m ρ c main_v48 (by decide), W26_of m ρ c main_v48 (by decide),
    W25_of m ρ c main_v48 (by decide), W24_of m ρ c main_v48 (by decide), W23_of m ρ c main_v48 (by decide)]
  refine (read_node (W20 m ρ c)).trans ?_
  rw [at_v45, at_v46, W20_args m ρ c main_arg11 (by decide)]
  rfl

/-- The batch row of each token. -/
theorem at_v50 : W24 m ρ c (Proc.devRef .tc main_v50) = tokRow := read_tokRow (W22 m ρ c)

/-- The entity rows of the tokens. -/
theorem at_v52 : W28 m ρ c (Proc.devRef .tc main_v52) = tokAt (F := Ideal) (entAt (arg m c main_arg0) (arg m c main_arg13)) tokRow := by
  rw [W28_of m ρ c main_v52 (by decide), W27_of m ρ c main_v52 (by decide)]
  refine (read_ent (W24 m ρ c)).trans ?_
  rw [at_v50, W24_args m ρ c main_arg0 (by decide), W24_args m ρ c main_arg13 (by decide)]

/-- The relation rows of the tokens. -/
theorem at_v54 : W28 m ρ c (Proc.devRef .tc main_v54) = tokAt (F := Ideal) (relAt (arg m c main_arg1) (arg m c main_arg14)) tokRow := by
  refine (read_relRows (W26 m ρ c)).trans ?_
  rw [W26_args m ρ c main_arg1 (by decide), W26_args m ρ c main_arg14 (by decide), W26_of m ρ c main_v50 (by decide),
    W25_of m ρ c main_v50 (by decide), at_v50]

/-- The wide features in terms of the arguments, given each token's batch row. -/
abbrev wide (m : (ℓ : Loc nD τ sig) → Buf (Elt Ideal) ℓ) (c : Dev nD) (b : IVec S20480 32) : FVec Ideal S20480x512 .f32 :=
  feat4 (nodes m c) (tokAt (entAt (arg m c main_arg0) (arg m c main_arg13)) b)
    (tokAt (relAt (arg m c main_arg1) (arg m c main_arg14)) b) (arg m c main_arg2)

/-- The narrow features in terms of the arguments, given each token's batch row. -/
abbrev narrow (m : (ℓ : Loc nD τ sig) → Buf (Elt Ideal) ℓ) (c : Dev nD) (b : IVec S20480 32) : FVec Ideal S20480x384 .f32 :=
  feat3 (nodes m c) (tokAt (entAt (arg m c main_arg0) (arg m c main_arg13)) b) (arg m c main_arg2)

/-- The kernel's first result: the wide features, ten tokens to a batch row. -/
theorem at_v57 : W29 m ρ c (Proc.devRef .tc main_v57)
    = shapeCast S2048x10x512 (wide m c tokRow) shapeCasts_S20480x512_S2048x10x512 := by
  refine (read_wide (W28 m ρ c)).trans ?_
  rw [at_v48, at_v52, at_v54, W28_args m ρ c main_arg2 (by decide)]

/-- The kernel's second result: the narrow features, ten tokens to a batch row. -/
theorem at_v58 : W29 m ρ c (Proc.devRef .tc main_v58)
    = shapeCast S2048x10x384 (narrow m c tokRow) shapeCasts_S20480x384_S2048x10x384 := by
  refine (read_narrow (W28 m ρ c)).trans ?_
  rw [at_v48, at_v52, W28_args m ρ c main_arg2 (by decide)]

end Cert.Stages

end
-- ==== Proof.KernelRun.lean ====
/-
  The kernel program's run: from any memory with zero counters every fair execution ends, and every buffer that
  outlives the regions holds the last boundary's contents.
-/
module

public import proofs.«01_k».proof.Proof.KernelValue

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with the statement
set_option backward.isDefEq.respectTransparency.types false in
/-- Every fair execution ends with each device's lasting buffers at the last boundary's contents. -/
theorem ends_at_last : θ_run defs (onTc (τ := τ) (main (F := F))) ⟨m, fun _ => 0, ρ⟩ (fun r => ∀ c : Dev nD,
      ∀ b ∈ Pipeline.ucRefs τ sig, r.2.mem (((c : Thread nD τ)).1, b) = W29 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h _ => h)

/-- Every fair execution ends with the two results at the last boundary's contents and the arguments as launched. -/
theorem results : θ_run defs (onTc (τ := τ) (main (F := F))) ⟨m, fun _ => 0, ρ⟩ (fun r => ∀ c : Dev nD,
      r.2.mem ((c.tc : Thread nD τ).loc main_v57) = W29 m ρ c (Proc.devRef .tc main_v57) ∧
      r.2.mem ((c.tc : Thread nD τ).loc main_v58) = W29 m ρ c (Proc.devRef .tc main_v58) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15)) :=
  (θ_run defs _ _).mono (fun _ h c =>
    ⟨h c _ (mem_uc main_v57 (by decide)), h c _ (mem_uc main_v58 (by decide)),
     (h c _ (mem_uc main_arg0 (by decide))).trans (W29_main_arg0 m ρ c),
     (h c _ (mem_uc main_arg1 (by decide))).trans (W29_main_arg1 m ρ c),
     (h c _ (mem_uc main_arg2 (by decide))).trans (W29_main_arg2 m ρ c),
     (h c _ (mem_uc main_arg3 (by decide))).trans (W29_main_arg3 m ρ c),
     (h c _ (mem_uc main_arg4 (by decide))).trans (W29_main_arg4 m ρ c),
     (h c _ (mem_uc main_arg5 (by decide))).trans (W29_main_arg5 m ρ c),
     (h c _ (mem_uc main_arg6 (by decide))).trans (W29_main_arg6 m ρ c),
     (h c _ (mem_uc main_arg7 (by decide))).trans (W29_main_arg7 m ρ c),
     (h c _ (mem_uc main_arg8 (by decide))).trans (W29_main_arg8 m ρ c),
     (h c _ (mem_uc main_arg9 (by decide))).trans (W29_main_arg9 m ρ c),
     (h c _ (mem_uc main_arg10 (by decide))).trans (W29_main_arg10 m ρ c),
     (h c _ (mem_uc main_arg11 (by decide))).trans (W29_main_arg11 m ρ c),
     (h c _ (mem_uc main_arg12 (by decide))).trans (W29_main_arg12 m ρ c),
     (h c _ (mem_uc main_arg13 (by decide))).trans (W29_main_arg13 m ρ c),
     (h c _ (mem_uc main_arg14 (by decide))).trans (W29_main_arg14 m ρ c),
     (h c _ (mem_uc main_arg15 (by decide))).trans (W29_main_arg15 m ρ c)⟩) (ends_at_last m ρ)

end Cert.KernelIdeal.Gen

end
-- ==== Proof.RowScatter.lean ====
/-
  The write of the rows of a matrix into an array of rank three, two index words per row, read at an entry.
-/
module

public import proofs.«01_k».proof.Proof.KernelRun
public import Idealize.ShloMosaic.Lib.Routing.OpsSet
public import Idealize.ShloMosaic.Lib.Routing.Words
public import Idealize.ShloMosaic.Lib.ReduceAll

@[expose] public section

noncomputable section

namespace Cert.Tail

open Idealize.ShloMosaic hiding ix1 ix2 ix3
open Idealize.ShloMosaic.ValueIdx Idealize.ShloMosaic.Routing

/-- The dimension numbers of `out.at[i, j].set(rows)`: row `p` goes to `out[i p, j p, :]`. -/
abbrev rowDims (N A B C : Nat) (h : ScatterDims.WF (shape3 A B C) (shape2 N 2) (shape2 N C) [1] [0, 1] [0, 1] 1) :
    ScatterDims (shape3 A B C) (shape2 N 2) (shape2 N C) where
  updateWindowDims := [1]
  insertedWindowDims := [0, 1]
  scatterDimsToOperandDims := [0, 1]
  indexVectorDim := 1
  wf := h

section
variable {N A B C : Nat} (h : ScatterDims.WF (shape3 A B C) (shape2 N 2) (shape2 N C) [1] [0, 1] [0, 1] 1)
  (idx : IVec (shape2 N 2) 32) (p : Fin N) (q : Fin C)

/-- The first start coordinate of row `p` is its first index word. -/
theorem start_row : (rowDims N A B C h).start (ix2 p q) idx 0 = (idx (ix2 p (0 : Fin 2))).toInt := by
  refine congrArg (fun j => (idx j).toInt) (funext fun b => Fin.ext ?_)
  match b with
  | ⟨0, _⟩ => rfl
  | ⟨1, _⟩ => rfl

/-- The second start coordinate of row `p` is its second index word. -/
theorem start_col : (rowDims N A B C h).start (ix2 p q) idx 1 = (idx (ix2 p (1 : Fin 2))).toInt := by
  refine congrArg (fun j => (idx j).toInt) (funext fun b => Fin.ext ?_)
  match b with
  | ⟨0, _⟩ => rfl
  | ⟨1, _⟩ => rfl

/-- The last axis starts at zero. -/
theorem start_last : (rowDims N A B C h).start (ix2 p q) idx 2 = 0 := rfl

/-- Entry `(p, q)` of the rows lands at `(a, b, c)` exactly when row `p`'s two index words are `a` and `b` and `q` is `c`. -/
theorem row_lands (a : Fin A) (b : Fin B) (c : Fin C) :
    (rowDims N A B C h).resultIdx? (ix2 p q) idx = some (ix3 a b c)
      ↔ (idx (ix2 p (0 : Fin 2))).toInt = a.val ∧ (idx (ix2 p (1 : Fin 2))).toInt = b.val ∧ q = c := by
  have w0 : (rowDims N A B C h).window (ix2 p q) 0 = 0 := rfl
  have w1 : (rowDims N A B C h).window (ix2 p q) 1 = 0 := rfl
  have w2 : (rowDims N A B C h).window (ix2 p q) 2 = q.val := rfl
  have s0 := start_row h idx p q
  have s1 := start_col h idx p q
  have s2 := start_last h idx p q
  rw [resultIdx?_eq_some]
  constructor
  · intro e
    have e0 : _ = (a.val : Int) := e 0
    have e1 : _ = (b.val : Int) := e 1
    have e2 : _ = (c.val : Int) := e 2
    rw [s0, w0] at e0
    rw [s1, w1] at e1
    rw [s2, w2] at e2
    exact ⟨by omega, by omega, Fin.ext (by omega)⟩
  · rintro ⟨e0, e1, rfl⟩ x
    match x with
    | ⟨0, _⟩ =>
      show (rowDims N A B C h).start (ix2 p q) idx 0 + ((rowDims N A B C h).window (ix2 p q) 0 : Int) = (a.val : Int)
      rw [s0, w0]; omega
    | ⟨1, _⟩ =>
      show (rowDims N A B C h).start (ix2 p q) idx 1 + ((rowDims N A B C h).window (ix2 p q) 1 : Int) = (b.val : Int)
      rw [s1, w1]; omega
    | ⟨2, _⟩ =>
      show (rowDims N A B C h).start (ix2 p q) idx 2 + ((rowDims N A B C h).window (ix2 p q) 2 : Int) = (q.val : Int)
      rw [s2, w2]; omega

end

/-- Rows written in order, `B` to a leading index, are the reshape of the matrix: with index words `p / B` and
    `p % B` for row `p`, every entry of the result is written once. -/
theorem scatter_rows {α : Type} {N A B C : Nat} (hB : 0 < B) (hA : A * B = N) (hN : N < 2 ^ 31)
    (h : ScatterDims.WF (shape3 A B C) (shape2 N 2) (shape2 N C) [1] [0, 1] [0, 1] 1)
    (idx : IVec (shape2 N 2) 32) (h0 : ∀ p : Fin N, idx (ix2 p (0 : Fin 2)) = BitVec.ofNat 32 (p.val / B))
    (h1 : ∀ p : Fin N, idx (ix2 p (1 : Fin 2)) = BitVec.ofNat 32 (p.val % B))
    (z : (shape3 A B C).Idx → α) (rows : (shape2 N C).Idx → α) (hc : (shape2 N C).ShapeCasts (shape3 A B C)) :
    Host.scatter (rowDims N A B C h) (fun _ b => b) z idx rows = shapeCast (shape3 A B C) rows hc := by
  funext i
  obtain ⟨a, b, c, rfl⟩ : ∃ a b c, i = ix3 a b c := ⟨_, _, _, ValueIdx.eq_ix3 i⟩
  have hp : a.val * B + b.val < N := by
    have := Nat.mul_le_mul_right B (Nat.succ_le_of_lt a.isLt)
    rw [Nat.succ_mul] at this
    have := b.isLt
    omega
  have hs : shapeCast (shape3 A B C) rows hc (ix3 a b c) = rows (ix2 ⟨a.val * B + b.val, hp⟩ c) := by
    refine shapeCast_apply rows hc _ _ ?_
    rw [Shape.rowMajor_val_three, Shape.rowMajor_val_two]
    rfl
  have t0 : ∀ p : Fin N, (idx (ix2 p (0 : Fin 2))).toInt = ((p.val / B : Nat) : Int) := fun p => by
    rw [h0]
    exact StableHlo.Predicate.toInt_ofNat_small _ (lt_of_le_of_lt (Nat.div_le_self _ _) (lt_trans p.isLt hN))
  have t1 : ∀ p : Fin N, (idx (ix2 p (1 : Fin 2))).toInt = ((p.val % B : Nat) : Int) := fun p => by
    rw [h1]
    exact StableHlo.Predicate.toInt_ofNat_small _ (lt_of_le_of_lt (Nat.mod_le _ _) (lt_trans p.isLt hN))
  rw [hs]
  refine scatter_set_hit _ _ _ _ _ _ (fun k hk => ?_) (ix2 ⟨a.val * B + b.val, hp⟩ c) ((row_lands h idx _ _ a b c).2 ⟨?_, ?_, rfl⟩)
  · obtain ⟨p, q, rfl⟩ : ∃ p q, k = ix2 p q := ⟨_, _, ValueIdx.eq_ix2 k⟩
    obtain ⟨e0, e1, rfl⟩ := (row_lands h idx p q a b c).1 hk
    rw [t0] at e0
    rw [t1] at e1
    have hq : p = ⟨a.val * B + b.val, hp⟩ := Fin.ext (by
      show p.val = a.val * B + b.val
      rw [← Int.ofNat_inj.1 e0, ← Int.ofNat_inj.1 e1, Nat.div_add_mod'])
    rw [hq]
  · rw [t0]
    show (((a.val * B + b.val) / B : Nat) : Int) = (a.val : Int)
    rw [Nat.mul_comm, Nat.mul_add_div hB, Nat.div_eq_of_lt b.isLt, Nat.add_zero]
  · rw [t1]
    show (((a.val * B + b.val) % B : Nat) : Int) = (b.val : Int)
    rw [Nat.mul_comm, Nat.mul_add_mod, Nat.mod_eq_of_lt b.isLt]

end Cert.Tail

end
-- ==== Proof.Lengths.lean ====
/-
  The integer side when every sequence has length ten: the running totals are the multiples of ten, each token's batch
  row is its number divided by ten and its place in the row the remainder.
-/
module

public import proofs.«01_k».proof.Proof.RowScatter
public import proofs.«01_k».proof.Proof.Gen.Pre_full_lengths

@[expose] public section

set_option maxRecDepth 16384

noncomputable section

namespace Cert.Tail

open Idealize.ShloMosaic hiding ix0 ix1 ix2 ix3
open Idealize.ShloMosaic.ValueIdx Idealize.ShloMosaic.Routing

/-! ## Counting -/

/-- Of the first `n` positive multiples of ten, the least of `n` and `p / 10` are at most `p`. -/
theorem count_tens (p n : Nat) : Nat.count (fun q => 10 * (1 + q) ≤ p) n = min n (p / 10) := by
  induction n with
  | zero => simp
  | succ n ih =>
    rw [Nat.count_succ, ih]
    split <;> omega

/-- An index word that is not negative is kept by the wrap of negative indices. -/
theorem wrapped {n : Nat} (x : IVec (shape1 n) 32) (k : BitVec 32) (h₁ h₂ : shape0.BroadcastsInDim (shape1 n) (![] : Fin 0 → Fin 1))
    (p : Fin n) (a : Nat) (hx : x (ix1 p) = BitVec.ofNat 32 a) (ha : a < 2 ^ 31) :
    select (cmpi .slt x (broadcastInDim (shape1 n) ![] h₁ (constantI shape0 32 0#32)))
      (addi x (broadcastInDim (shape1 n) ![] h₂ (constantI shape0 32 k))) x (ix1 p) = BitVec.ofNat 32 a := by
  have hn : (x (ix1 p)).toNat < 2 ^ (32 - 1) := by
    rw [hx, BitVec.toNat_ofNat]
    omega
  exact (wrap_of_lt (x (ix1 p)) (x (ix1 p) + k) hn).trans hx

/-- Two columns side by side: the first column. -/
theorem cols_left {n : Nat} {α : Type} (u v : (shape2 n 1).Idx → α) (h : Shape.Concatenates [shape2 n 1, shape2 n 1] (shape2 n 2) 1) (p : Fin n) :
    concatenate (shape2 n 2) 1 [⟨shape2 n 1, u⟩, ⟨shape2 n 1, v⟩] h (ix2 p (0 : Fin 2)) = u (ix2 p (0 : Fin 1)) :=
  concatenate_pair_apply_left 1 u v h (ix2 p (0 : Fin 2)) rfl (ix2 p (0 : Fin 1)) fun b => match b with
    | ⟨0, _⟩ => rfl
    | ⟨1, _⟩ => rfl

/-- Two columns side by side: the second column. -/
theorem cols_right {n : Nat} {α : Type} (u v : (shape2 n 1).Idx → α) (h : Shape.Concatenates [shape2 n 1, shape2 n 1] (shape2 n 2) 1) (p : Fin n) :
    concatenate (shape2 n 2) 1 [⟨shape2 n 1, u⟩, ⟨shape2 n 1, v⟩] h (ix2 p (1 : Fin 2)) = v (ix2 p (0 : Fin 1)) :=
  concatenate_pair_apply_right 1 u v h (ix2 p (1 : Fin 2)) rfl rfl (ix2 p (0 : Fin 1)) (fun b hb => match b, hb with
    | ⟨0, _⟩, _ => rfl
    | ⟨1, _⟩, hb => absurd rfl hb) rfl

/-! ## The lengths -/

/-- The precondition says that every sequence length is ten. -/
theorem lengths_ten {a0 a1 a2 a3 a4 a5 a6 a7 a8 a9 a10 a11 s a13 a14 a15}
    (h : Cert.Pre_full_lengths.fn (F := Ideal) a0 a1 a2 a3 a4 a5 a6 a7 a8 a9 a10 a11 s a13 a14 a15 = fun _ => 1#1)
    (i : Fin 2048) : s (ix1 i) = 10#32 := by
  have e := congrFun h ix0
  unfold Cert.Pre_full_lengths.fn at e
  haveI : Subsingleton Cert.Pre_full_lengths.S_.Idx := ⟨fun a b => funext fun x => x.elim0⟩
  have q := Host.reduce_andi_all _ _ _ _ _ e (ix1 i)
  have q' : IntOp.cmpi .eq (s (ix1 i)) 10#32 = 1#1 := q
  rw [WordCmp.cmpi_eq_eq, WordCmp.ofBool_decide_eq_one_iff] at q'
  exact q'

section Reference

open Cert.ReferenceIdeal Cert.ReferenceIdeal.Value

variable (V : Valuation Cert.ReferenceIdeal.τ Cert.ReferenceIdeal.sig (Elt Ideal))
  (hs : ∀ i : Fin 2048, (V (Proc.devRef .tc main_arg12) : IVec S2048 32) (ix1 i) = 10#32)

include hs

/-- The running totals are the multiples of ten. -/
theorem totals_at (j : Fin 2049) : (res_main_v45 V : IVec S2049 32) (ix1 j) = BitVec.ofNat 32 (10 * j.val) := by
  unfold res_main_v45
  by_cases hj : j.val = 0
  · refine (concatenate_pair_apply_left (s₁ := S1) (s₂ := S2048) 0 _ _ _ (ix1 j) rfl (ix1 (0 : Fin 1)) fun b => ?_).trans ?_
    · match b with
      | ⟨0, _⟩ => exact hj.symm
    · rw [hj]
      rfl
  · refine (concatenate_pair_apply_right (s₁ := S1) (s₂ := S2048) 0 _ _ _ (ix1 j) rfl rfl (ix1 (⟨j.val - 1, by omega⟩ : Fin 2048)) (fun b hb => ?_) ?_).trans ?_
    · match b, hb with
      | ⟨0, _⟩, hb => exact absurd rfl hb
    · show j.val - 1 + 1 = j.val
      omega
    · refine (cumsum1 (N := 2048) (Nm1 := 2047) rfl _ (fun _ => 10) (fun i => hs i) _ ?_ _ _ _).trans ?_
      · rfl
      · show BitVec.ofNat 32 ((List.range (j.val - 1 + 1)).map fun _ => 10).sum = _
        rw [List.map_const', List.sum_replicate, List.length_range, smul_eq_mul]
        congr 1
        omega

/-- Each token's batch row in the reference is its number divided by ten. -/
theorem row_at (p : Fin 20480) : (res_main_v54 V : IVec S20480 32) (ix1 p) = BitVec.ofNat 32 (p.val / 10) := by
  unfold res_main_v54
  refine (reduce_count (n := 20480) (m := 2048) (by norm_num) _ _ _ _ p (fun q => 10 * (1 + q) ≤ p.val) fun q => ?_).trans ?_
  · have hq := q.isLt
    have hp := p.isLt
    have el : broadcastInDim S20480x2048 ![0, 1] Facts₀.bcast_S1x2048_S20480x2048_0_1
        (broadcastInDim S1x2048 ![1] Facts₀.bcast_S2048_S1x2048_1
          (extractStridedSlice S2048 ![1] (res_main_v45 V) Facts₀.slices_S2049_S2048_1)) (ix2 p q)
        = BitVec.ofNat 32 (10 * (1 + q.val)) :=
      (bcCols _ _ _ p q).trans ((slice1 1 _ _ q (by omega)).trans (totals_at V hs _))
    have er : broadcastInDim S20480x2048 ![0, 1] Facts₀.bcast_S20480x1_S20480x2048_0_1
        (broadcastInDim S20480x1 ![0] Facts₀.bcast_S20480_S20480x1_0 (res_main_v46 V)) (ix2 p q)
        = BitVec.ofNat 32 p.val := (bcRows _ _ _ p q).trans rfl
    refine (show _ ↔ IntOp.cmpi .sle _ _ = 1#1 from Iff.rfl).trans ?_
    rw [el, er]
    exact WordCmp.cmpi_sle_ofNat_eq_one_iff (by norm_num; omega) (by norm_num; omega)
  · rw [count_tens]
    have := p.isLt
    congr 1
    omega

/-- Each token's place in its batch row in the reference is the remainder of its number by ten. -/
theorem place_at (p : Fin 20480) : (res_main_v62 V : IVec S20480 32) (ix1 p) = BitVec.ofNat 32 (p.val % 10) := by
  have hp := p.isLt
  unfold res_main_v62
  refine (subi_ap _ _ _).trans ?_
  rw [gather_take1 (N := 2049) (n := 20480) gather_S2049_S20480x1_S20480_n_0_n_n_0_1_1 rfl rfl rfl rfl _ _ p
    ⟨p.val / 10, by omega⟩ ((bcCol _ _ p).trans (wrapped _ _ _ _ p _ (row_at V hs p) (by omega))) (by norm_num), totals_at V hs]
  show BitVec.ofNat 32 p.val - BitVec.ofNat 32 (10 * (p.val / 10)) = _
  have e : p.val = 10 * (p.val / 10) + p.val % 10 := (Nat.div_add_mod _ _).symm
  conv_lhs => rw [e, BitVec.ofNat_add]
  rw [← e]
  exact add_sub_cancel_left _ _

end Reference

/-! ## The kernel's batch rows -/

/-- Each token's batch row in the kernel is its number divided by ten. -/
theorem tokRow_at (p : Fin 20480) : Cert.Stages.tokRow (ix1 p) = BitVec.ofNat 32 (p.val / 10) := by
  have hp := p.isLt
  have hd : Host.divsi (iotaInDim Cert.KernelIdeal.S20480 32 0) (fun _ => 10#32) (ix1 p) = BitVec.ofNat 32 (p.val / 10) :=
    divsi_word _ (a := p.val) (by omega) (by norm_num) (by norm_num)
  have hr : Host.remsi (iotaInDim Cert.KernelIdeal.S20480 32 0) (fun _ => 10#32) (ix1 p) = BitVec.ofNat 32 (p.val % 10) :=
    remsi_word _ (a := p.val) (by omega) (by norm_num) (by norm_num)
  have hsg : p.val ≠ 0 → signi (iotaInDim Cert.KernelIdeal.S20480 32 0) (ix1 p) = 1#32 := fun h0 => by
    show (if BitVec.ofNat 32 p.val = 0 then 0 else if (BitVec.ofNat 32 p.val).msb then -1 else 1 : BitVec 32) = 1#32
    have h1 : ¬ BitVec.ofNat 32 p.val = 0 := fun e => h0 (by
      have := congrArg BitVec.toNat e
      rw [BitVec.toNat_ofNat] at this
      have z : (0 : BitVec 32).toNat = 0 := rfl
      omega)
    have h2 : (BitVec.ofNat 32 p.val).msb = false := by
      rw [BitVec.msb_eq_false_iff_two_mul_lt, BitVec.toNat_ofNat]
      omega
    rw [if_neg h1, h2]
    rfl
  show Scalar.select (IntOp.andi (IntOp.cmpi .ne (signi (iotaInDim Cert.KernelIdeal.S20480 32 0) (ix1 p))
        (if (10#32 : BitVec 32) = 0 then 0 else if (10#32 : BitVec 32).msb then -1 else 1))
      (IntOp.cmpi .ne (Host.remsi (iotaInDim Cert.KernelIdeal.S20480 32 0) (fun _ => 10#32) (ix1 p)) 0#32))
      (Host.divsi (iotaInDim Cert.KernelIdeal.S20480 32 0) (fun _ => 10#32) (ix1 p) - 1#32)
      (Host.divsi (iotaInDim Cert.KernelIdeal.S20480 32 0) (fun _ => 10#32) (ix1 p)) = _
  have h10 : (if (10#32 : BitVec 32) = 0 then 0 else if (10#32 : BitVec 32).msb then -1 else 1 : BitVec 32) = 1#32 := by decide
  rw [hd, hr, h10]
  by_cases h0 : p.val = 0
  · rw [h0]
    unfold Scalar.select
    rw [if_neg]
    have z : IntOp.cmpi .ne (BitVec.ofNat 32 (0 % 10)) 0#32 = 0#1 := by decide
    rw [z]
    unfold IntOp.andi
    rw [BitVec.and_zero]
    decide
  · rw [hsg h0]
    unfold Scalar.select
    rw [if_neg]
    have z : IntOp.cmpi .ne (1#32) 1#32 = 0#1 := by decide
    rw [z]
    unfold IntOp.andi
    rw [BitVec.zero_and]
    decide

end Cert.Tail

end
-- ==== Proof.Equation.lean ====
/-
  The equation: with every sequence of length ten, the reference's two padded arrays are the kernel's.
-/
module

public import proofs.«01_k».proof.Proof.Lengths

@[expose] public section

set_option maxRecDepth 16384

noncomputable section

namespace Cert.Tail

open Idealize.ShloMosaic hiding ix0 ix1 ix2 ix3
open Idealize.ShloMosaic.ValueIdx Idealize.ShloMosaic.Routing Idealize.ShloMosaic.TcCoe
open Cert.Stages

section Writes

open Cert.ReferenceIdeal Cert.ReferenceIdeal.Value

variable (V : Valuation Cert.ReferenceIdeal.τ Cert.ReferenceIdeal.sig (Elt Ideal))

/-- The index words of the reference's writes: the batch row and the place in it, each with negative words wrapped. -/
def places : IVec S20480x2 32 :=
  concatenate S20480x2 1
    [⟨S20480x1, broadcastInDim S20480x1 ![0] Facts₀.bcast_S20480_S20480x1_0
      (select (cmpi .slt (res_main_v54 V) (broadcastInDim S20480 ![] Facts₀.bcast_S_S20480 (constantI S_ 32 0#32)))
        (addi (res_main_v54 V) (broadcastInDim S20480 ![] Facts₀.bcast_S_S20480 (constantI S_ 32 2048#32))) (res_main_v54 V))⟩,
     ⟨S20480x1, broadcastInDim S20480x1 ![0] Facts₀.bcast_S20480_S20480x1_0
      (select (cmpi .slt (res_main_v62 V) (broadcastInDim S20480 ![] Facts₀.bcast_S_S20480 (constantI S_ 32 0#32)))
        (addi (res_main_v62 V) (broadcastInDim S20480 ![] Facts₀.bcast_S_S20480 (constantI S_ 32 10#32))) (res_main_v62 V))⟩]
    Facts₀.concatenates_S20480x1_S20480x1_S20480x2_d1

variable (hs : ∀ i : Fin 2048, (V (Proc.devRef .tc main_arg12) : IVec S2048 32) (ix1 i) = 10#32)

include hs

/-- The first index word of token `p` is `p / 10`. -/
theorem places_row (p : Fin 20480) : places V (ix2 p (0 : Fin 2)) = BitVec.ofNat 32 (p.val / 10) := by
  have hp := p.isLt
  exact (cols_left _ _ _ p).trans ((bcCol _ _ p).trans (wrapped _ _ _ _ p _ (row_at V hs p) (by omega)))

/-- The second index word of token `p` is `p % 10`. -/
theorem places_col (p : Fin 20480) : places V (ix2 p (1 : Fin 2)) = BitVec.ofNat 32 (p.val % 10) := by
  have hp := p.isLt
  exact (cols_right _ _ _ p).trans ((bcCol _ _ p).trans (wrapped _ _ _ _ p _ (place_at V hs p) (by omega)))

/-- The reference's batch rows are the kernel's. -/
theorem row_eq : (res_main_v54 V : IVec S20480 32) = tokRow := by
  funext i
  obtain ⟨p, rfl⟩ : ∃ p, i = ix1 p := ⟨_, ValueIdx.eq_ix1 i⟩
  exact (row_at V hs p).trans (tokRow_at p).symm

/-- Writing wide rows at the reference's places is their reshape. -/
theorem write_wide (z : FVec Ideal S2048x10x512 .f32) (rows : FVec Ideal S20480x512 .f32) :
    Host.scatter scatter_S2048x10x512_S20480x2_S20480x512_1_01_01_1 (fun _ b => b) z (places V) rows
      = shapeCast Cert.KernelIdeal.S2048x10x512 rows Cert.KernelIdeal.Facts₀.shapeCasts_S20480x512_S2048x10x512 :=
  scatter_rows (N := 20480) (A := 2048) (B := 10) (C := 512) (by norm_num) (by norm_num) (by norm_num)
    Facts₀.scatter_S2048x10x512_S20480x2_S20480x512_1_01_01_1_wf (places V) (places_row V hs) (places_col V hs) z rows _

/-- Writing narrow rows at the reference's places is their reshape. -/
theorem write_narrow (z : FVec Ideal S2048x10x384 .f32) (rows : FVec Ideal S20480x384 .f32) :
    Host.scatter scatter_S2048x10x384_S20480x2_S20480x384_1_01_01_1 (fun _ b => b) z (places V) rows
      = shapeCast Cert.KernelIdeal.S2048x10x384 rows Cert.KernelIdeal.Facts₀.shapeCasts_S20480x384_S2048x10x384 :=
  scatter_rows (N := 20480) (A := 2048) (B := 10) (C := 384) (by norm_num) (by norm_num) (by norm_num)
    Facts₀.scatter_S2048x10x384_S20480x2_S20480x384_1_01_01_1_wf (places V) (places_row V hs) (places_col V hs) z rows _

end Writes

section Rows

open Cert.KernelIdeal Cert.ReferenceIdeal.Value

variable (V : Valuation Cert.ReferenceIdeal.τ Cert.ReferenceIdeal.sig (Elt Ideal))
  (m : (ℓ : Loc Cert.KernelIdeal.nD Cert.KernelIdeal.τ Cert.KernelIdeal.sig) → Buf (Elt Ideal) ℓ) (c : Dev Cert.KernelIdeal.nD)
  (hs : ∀ i : Fin 2048, (V (Proc.devRef .tc Cert.ReferenceIdeal.main_arg12) : IVec Cert.ReferenceIdeal.S2048 32) (ix1 i) = 10#32)
  (h0 : V (Proc.devRef .tc Cert.ReferenceIdeal.main_arg0) = arg m c main_arg0)
  (h1 : V (Proc.devRef .tc Cert.ReferenceIdeal.main_arg1) = arg m c main_arg1)
  (h2 : V (Proc.devRef .tc Cert.ReferenceIdeal.main_arg2) = arg m c main_arg2)
  (h3 : V (Proc.devRef .tc Cert.ReferenceIdeal.main_arg3) = arg m c main_arg3)
  (h4 : V (Proc.devRef .tc Cert.ReferenceIdeal.main_arg4) = arg m c main_arg4)
  (h5 : V (Proc.devRef .tc Cert.ReferenceIdeal.main_arg5) = arg m c main_arg5)
  (h6 : V (Proc.devRef .tc Cert.ReferenceIdeal.main_arg6) = arg m c main_arg6)
  (h7 : V (Proc.devRef .tc Cert.ReferenceIdeal.main_arg7) = arg m c main_arg7)
  (h8 : V (Proc.devRef .tc Cert.ReferenceIdeal.main_arg8) = arg m c main_arg8)
  (h9 : V (Proc.devRef .tc Cert.ReferenceIdeal.main_arg9) = arg m c main_arg9)
  (h10 : V (Proc.devRef .tc Cert.ReferenceIdeal.main_arg10) = arg m c main_arg10)
  (h11 : V (Proc.devRef .tc Cert.ReferenceIdeal.main_arg11) = arg m c main_arg11)
  (h13 : V (Proc.devRef .tc Cert.ReferenceIdeal.main_arg13) = arg m c main_arg13)
  (h14 : V (Proc.devRef .tc Cert.ReferenceIdeal.main_arg14) = arg m c main_arg14)
  (h15 : V (Proc.devRef .tc Cert.ReferenceIdeal.main_arg15) = arg m c main_arg15)

include h0 h3 h4 h5 h6 h7 h8 h9 h10 h11 h15 in
/-- The reference's node rows are the kernel's. -/
theorem nodes_eq : res_main_v42 V = nodes m c := by
  rw [ref_node, ref_layer1, h0, h3, h4, h5, h6, h7, h8, h9, h10, h11, h15]

include hs h0 h1 h2 h3 h4 h5 h6 h7 h8 h9 h10 h11 h13 h14 h15 in
/-- The reference's wide rows are the kernel's. -/
theorem wide_eq : feat4 (res_main_v42 V) (res_main_v64 V)
      (tokAt (F := Ideal) (relAt (V (Proc.devRef .tc Cert.ReferenceIdeal.main_arg1)) (V (Proc.devRef .tc Cert.ReferenceIdeal.main_arg14)))
        (res_main_v54 V)) (V (Proc.devRef .tc Cert.ReferenceIdeal.main_arg2)) = wide m c tokRow := by
  rw [nodes_eq V m c h0 h3 h4 h5 h6 h7 h8 h9 h10 h11 h15, ref_ent, row_eq V hs, h0, h1, h2, h13, h14]

include hs h0 h2 h3 h4 h5 h6 h7 h8 h9 h10 h11 h13 h15 in
/-- The reference's narrow rows are the kernel's. -/
theorem narrow_eq : feat3 (res_main_v42 V) (res_main_v64 V) (V (Proc.devRef .tc Cert.ReferenceIdeal.main_arg2))
      = narrow m c tokRow := by
  rw [nodes_eq V m c h0 h3 h4 h5 h6 h7 h8 h9 h10 h11 h15, ref_ent, row_eq V hs, h0, h2, h13]

end Rows

end Cert.Tail

end
-- ==== Proof.Pair.lean ====
/-
  The two programs side by side: from memories agreeing on the arguments, with every sequence of length ten, both
  end with the same two arrays.
-/
module

public import proofs.«01_k».proof.Defs
public import proofs.«01_k».proof.Proof.Equation
public import Idealize.ShloMosaic.Lib.StableHlo.RunHlo

@[expose] public section

set_option maxRecDepth 16384

noncomputable section

namespace Cert.Tail

open Idealize.ShloMosaic hiding ix0 ix1 ix2 ix3
open Idealize.ShloMosaic.ValueIdx Idealize.ShloMosaic.TcCoe Idealize.SL.Sem Idealize.ShloMosaic.StableHlo
open Cert.Stages

/-- Over the exact numbers the kernel and the reference end with equal results. -/
theorem same_results : Cert.algebraic_KernelIdeal_ReferenceIdeal_pre_full_lengths := by
  intro m g m' g' hpre hagree
  refine ⟨fun c => Cert.KernelIdeal.Gen.W29 m g c (Proc.devRef .tc Cert.KernelIdeal.main_v57),
    fun c => Cert.KernelIdeal.Gen.W29 m g c (Proc.devRef .tc Cert.KernelIdeal.main_v58),
    Cert.KernelIdeal.Gen.results m g, ?_⟩
  refine (θ_run _ _ _).mono (fun r h c => ?_) (Cert.ReferenceIdeal.Value.run m' g')
  obtain ⟨h83, h98, rest⟩ := h c
  obtain ⟨e0, e1, e2, e3, e4, e5, e6, e7, e8, e9, e10, e11, e12, e13, e14, e15⟩ := hagree c
  have hs : ∀ i : Fin 2048, (launchContents m' c (Proc.devRef .tc Cert.ReferenceIdeal.main_arg12) : IVec Cert.ReferenceIdeal.S2048 32)
      (ix1 i) = 10#32 := fun i => (congrFun e12 (ix1 i)).trans (lengths_ten (hpre c) i)
  refine ⟨h83.trans ?_, h98.trans ?_, rest⟩
  · refine (write_wide (launchContents m' c) hs _ _).trans ?_
    refine Eq.trans ?_ (at_v57 m g c).symm
    exact congrArg (fun x => shapeCast Cert.KernelIdeal.S2048x10x512 x Cert.KernelIdeal.Facts₀.shapeCasts_S20480x512_S2048x10x512)
      (wide_eq (launchContents m' c) m c hs e0 e1 e2 e3 e4 e5 e6 e7 e8 e9 e10 e11 e13 e14 e15)
  · refine (write_narrow (launchContents m' c) hs _ _).trans ?_
    refine Eq.trans ?_ (at_v58 m g c).symm
    exact congrArg (fun x => shapeCast Cert.KernelIdeal.S2048x10x384 x Cert.KernelIdeal.Facts₀.shapeCasts_S20480x384_S2048x10x384)
      (narrow_eq (launchContents m' c) m c hs e0 e2 e3 e4 e5 e6 e7 e8 e9 e10 e11 e13 e15)

end Cert.Tail

end
-- ==== Proof.RefFrame.lean ====
/-
  The reference runs: every fair execution ends, the arguments as launched and every counter at zero, there being none.
-/
module

public import proofs.«01_k».proof.Proof.Pair

@[expose] public section

set_option maxRecDepth 16384

noncomputable section

namespace Cert.Tail

open Idealize.ShloMosaic hiding ix0 ix1 ix2 ix3
open Idealize.ShloMosaic.TcCoe Idealize.SL.Sem Idealize.ShloMosaic.StableHlo

/-- The reference's frame. -/
theorem reference_frame : Cert.quiescent_ReferenceIdeal := by
  intro m g _
  exact (θ_run _ _ _).mono (fun r h => ⟨fun c => (h c).2.2, sem_eq_zero_of_no_sems (by decide) r.2⟩)
    (Cert.ReferenceIdeal.Value.run m g)

end Cert.Tail

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_full_lengths
public import proofs.«01_k».proof.Proof.RefFrame
public import Idealize.ShloMosaic.Adequacy
public import Idealize.ShloMosaic.Init

@[expose] public section

noncomputable section

namespace Cert.Proof

open Idealize.ShloMosaic Idealize.SL.Sem Cert.Kernel

/-- The claims hold. -/
theorem claim : Cert.Claim := ⟨Cert.Kernel.Gen.facts, Cert.KernelIdeal.Gen.facts, Cert.ReferenceIdeal.Gen.facts, Cert.Pre_full_lengths.Gen.facts,
  fun m ρ _ => Cert.Kernel.Gen.frame m ρ, fun m ρ _ => Cert.KernelIdeal.Gen.frame m ρ,
  fun m ρ _ => Cert.KernelIdeal.Gen.frame m ρ, Cert.Tail.reference_frame,
  fun m ρ _ => Cert.Tail.reference_frame m ρ trivial, trivial, Cert.Tail.same_results⟩

end Cert.Proof

end
